-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_finite [hPre_routing_finite : Cert.Pre_routing_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_finite [hPre_routing_finite : Cert.Pre_routing_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routing_finite [hKernelIdeal : Cert.KernelIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routing_finite [hReferenceIdeal : Cert.ReferenceIdeal.Facts] [hPre_routing_finite : Cert.Pre_routing_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routing_finite [hKernelIdeal : Cert.KernelIdeal.Facts] [hReferenceIdeal : Cert.ReferenceIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routing_finite : Cert.Pre_routing_finite.Facts),
    quiescent_Kernel (hKernel := hKernel)
    ∧ quiescent_KernelIdeal (hKernelIdeal := hKernelIdeal)
    ∧ quiescent_KernelIdeal_pre_routing_finite (hKernelIdeal := hKernelIdeal) (hPre_routing_finite := hPre_routing_finite)
    ∧ quiescent_ReferenceIdeal (hReferenceIdeal := hReferenceIdeal)
    ∧ quiescent_ReferenceIdeal_pre_routing_finite (hReferenceIdeal := hReferenceIdeal) (hPre_routing_finite := hPre_routing_finite)
    ∧ preserves_Kernel_KernelIdeal
    ∧ algebraic_KernelIdeal_ReferenceIdeal_pre_routing_finite (hKernelIdeal := hKernelIdeal) (hReferenceIdeal := hReferenceIdeal) (hPre_routing_finite := hPre_routing_finite)
-- ==== Pre_routing_finite.lean ====
abbrev S1x2048x768 : Shape := ⟨3, ![1, 2048, 768]⟩
abbrev S64x768 : Shape := ⟨2, ![64, 768]⟩
abbrev S64x1024x768 : Shape := ⟨3, ![64, 1024, 768]⟩
abbrev S64x768x1024 : Shape := ⟨3, ![64, 768, 1024]⟩
abbrev S_ : Shape := ⟨0, ![]⟩

class Facts : Prop where
  bcast_S_S1x2048x768 : S_.BroadcastsInDim S1x2048x768 (![] : Fin 0 → Fin S1x2048x768.rank)
  bcast_S_S64x768 : S_.BroadcastsInDim S64x768 (![] : Fin 0 → Fin S64x768.rank)

variable [Facts]

def fn {F : FTy → Type} [FloatOps F] (main_arg0 : FVec F S1x2048x768 .f32) (main_arg1 : FVec F S64x768 .f32) (main_arg2 : FVec F S64x1024x768 .f32) (main_arg3 : FVec F S64x768x1024 .f32) : IVec S1x2048x768 1 × IVec S64x768 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S64x768 .f32 := Host.absf main_arg1
  let main_cst_0 : FVec F S_ .f32 := constant S_ .f32 0x7F800000#32
  let main_v4 : FVec F S64x768 .f32 := broadcastInDim S64x768 ![] bcast_S_S64x768 main_cst_0
  let main_v5 : IVec S64x768 1 := cmpf .olt main_v3 main_v4
  (main_v2, main_v5)
-- ==== Kernel.lean ====
abbrev S1x2048x768 : Shape := ⟨3, ![1, 2048, 768]⟩
abbrev S64x768 : Shape := ⟨2, ![64, 768]⟩
abbrev S64x1024x768 : Shape := ⟨3, ![64, 1024, 768]⟩
abbrev S64x768x1024 : Shape := ⟨3, ![64, 768, 1024]⟩
abbrev S2048x768 : Shape := ⟨2, ![2048, 768]⟩
abbrev S1x1024x768 : Shape := ⟨3, ![1, 1024, 768]⟩
abbrev S1x768x1024 : Shape := ⟨3, ![1, 768, 1024]⟩
abbrev S64x32 : Shape := ⟨2, ![64, 32]⟩
abbrev S2048x2048 : Shape := ⟨2, ![2048, 2048]⟩
abbrev S64x2048 : Shape := ⟨2, ![64, 2048]⟩
abbrev S2048 : Shape := ⟨1, ![2048]⟩
abbrev S1x2048 : Shape := ⟨2, ![1, 2048]⟩
abbrev S64 : Shape := ⟨1, ![64]⟩
abbrev S64x1 : Shape := ⟨2, ![64, 1]⟩
abbrev S32x2048 : Shape := ⟨2, ![32, 2048]⟩
abbrev S1x32 : Shape := ⟨2, ![1, 32]⟩
abbrev S32 : Shape := ⟨1, ![32]⟩
abbrev S32x1 : Shape := ⟨2, ![32, 1]⟩
abbrev S256x2048 : Shape := ⟨2, ![256, 2048]⟩
abbrev S256x768 : Shape := ⟨2, ![256, 768]⟩
abbrev S32x768 : Shape := ⟨2, ![32, 768]⟩
abbrev S1024x768 : Shape := ⟨2, ![1024, 768]⟩
abbrev S32x1024 : Shape := ⟨2, ![32, 1024]⟩
abbrev S768x1024 : Shape := ⟨2, ![768, 1024]⟩

abbrev nBuf : Space → Nat
  | .hbm => 7
  | .vmem => 13
  | .smem => 0
  | _ => 0

abbrev bufTy : (tb : Table) → Fin (tcTables nBuf tb) → BufTy
  | .hbm, ⟨0, _⟩ => ⟨S1x2048x768, .f32⟩
  | .hbm, ⟨1, _⟩ => ⟨S64x768, .f32⟩
  | .hbm, ⟨2, _⟩ => ⟨S64x1024x768, .f32⟩
  | .hbm, ⟨3, _⟩ => ⟨S64x768x1024, .f32⟩
  | .hbm, ⟨4, _⟩ => ⟨S2048x768, .f32⟩
  | .hbm, ⟨5, _⟩ => ⟨S2048x768, .f32⟩
  | .hbm, ⟨6, _⟩ => ⟨S1x2048x768, .f32⟩
  | .local _ .vmem, ⟨0, _⟩ => ⟨S2048x768, .f32⟩
  | .local _ .vmem, ⟨1, _⟩ => ⟨S64x768, .f32⟩
  | .local _ .vmem, ⟨2, _⟩ => ⟨S1x1024x768, .f32⟩
  | .local _ .vmem, ⟨3, _⟩ => ⟨S1x1024x768, .f32⟩
  | .local _ .vmem, ⟨4, _⟩ => ⟨S1x768x1024, .f32⟩
  | .local _ .vmem, ⟨5, _⟩ => ⟨S1x768x1024, .f32⟩
  | .local _ .vmem, ⟨6, _⟩ => ⟨S2048x768, .f32⟩
  | .local _ .vmem, ⟨7, _⟩ => ⟨S64x32, .i32⟩
  | .local _ .vmem, ⟨8, _⟩ => ⟨S64x32, .f32⟩
  | .local _ .vmem, ⟨9, _⟩ => ⟨S2048x2048, .bf16⟩
  | .local _ .vmem, ⟨10, _⟩ => ⟨S2048x768, .bf16⟩
  | .local _ .vmem, ⟨11, _⟩ => ⟨S2048x768, .f32⟩
  | .local _ .vmem, ⟨12, _⟩ => ⟨S2048x768, .bf16⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_26 : BitVec 32 := 0#32
  let c32_i32_27 : BitVec 32 := 32#32
  let v57 : BitVec 32 := Scalar.addi c0_i32_26 c32_i32_27
  let c1_i32 : BitVec 32 := 1#32
  ⟨c0_i32_26, v57, c1_i32⟩
def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) (c0_i32_16 : BitVec 32) : Fin 2 → Nat :=
  let arg0 : BitVec 32 := BitVec.ofNat 32 (i 0).val
  let c8_i32_15 : BitVec 32 := 8#32
  let v37 : BitVec 32 := Scalar.muli arg0 c8_i32_15
  let v38 : BitVec 32 := Scalar.addi v37 c0_i32_16
  let v39 : Index := Scalar.indexCast v38
  let c0_17 : Index := 0#32
  ![v39.toNat, 0]
def k0_off2 (i : grid0.Coords) (c0_i32_16 : BitVec 32) : Fin 2 → Nat :=
  let arg0 : BitVec 32 := BitVec.ofNat 32 (i 0).val
  let c8_i32_15 : BitVec 32 := 8#32
  let v37 : BitVec 32 := Scalar.muli arg0 c8_i32_15
  let v38 : BitVec 32 := Scalar.addi v37 c0_i32_16
  let c32_i32_18 : BitVec 32 := 32#32
  let v48 : BitVec 32 := Scalar.muli v38 c32_i32_18
  let v49 : Index := Scalar.indexCast v48
  let c0_19 : Index := 0#32
  ![v49.toNat, 0]
def k0_off3 (i : grid0.Coords) : Fin 2 → Nat :=
  let arg0 : BitVec 32 := BitVec.ofNat 32 (i 0).val
  let c256_i32 : BitVec 32 := 256#32
  let v165 : BitVec 32 := Scalar.muli arg0 c256_i32
  let v166 : Index := Scalar.indexCast v165
  let c0_48 : Index := 0#32
  ![v166.toNat, 0]
def k0_off4 (i : grid0.Coords) : Fin 2 → Nat :=
  let arg0 : BitVec 32 := BitVec.ofNat 32 (i 0).val
  let c256_i32_52 : BitVec 32 := 256#32
  let v170 : BitVec 32 := Scalar.muli arg0 c256_i32_52
  let v171 : Index := Scalar.indexCast v170
  let c0_53 : Index := 0#32
  ![v171.toNat, 0]
def k0_off5 (i : grid0.Coords) : Fin 2 → Nat :=
  let arg0 : BitVec 32 := BitVec.ofNat 32 (i 0).val
  let v6 : Index := Scalar.indexCast arg0
  let c0 : Index := 0#32
  ![v6.toNat, 0]
def k0_off6 (i : grid0.Coords) : Fin 2 → Nat :=
  let arg0 : BitVec 32 := BitVec.ofNat 32 (i 0).val
  let c32_i32 : BitVec 32 := 32#32
  let v10 : BitVec 32 := Scalar.muli arg0 c32_i32
  let v11 : Index := Scalar.indexCast v10
  let c0_2 : Index := 0#32
  ![v11.toNat, 0]
def k0_cond3 (i : grid0.Coords) : BitVec 1 :=
  let arg0 : BitVec 32 := BitVec.ofNat 32 (i 0).val
  let c63_i32 : BitVec 32 := 63#32
  let v33 : BitVec 1 := Scalar.cmpi .eq arg0 c63_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x2048x768 : Shape := ⟨3, ![1, 2048, 768]⟩
abbrev S64x768 : Shape := ⟨2, ![64, 768]⟩
abbrev S64x1024x768 : Shape := ⟨3, ![64, 1024, 768]⟩
abbrev S64x768x1024 : Shape := ⟨3, ![64, 768, 1024]⟩
abbrev S1x2048x64 : Shape := ⟨3, ![1, 2048, 64]⟩
abbrev S_ : Shape := ⟨0, ![]⟩
abbrev S1x2048 : Shape := ⟨2, ![1, 2048]⟩
abbrev S1x2048x1 : Shape := ⟨3, ![1, 2048, 1]⟩
abbrev S1x64x2048 : Shape := ⟨3, ![1, 64, 2048]⟩
abbrev S1x64x32 : Shape := ⟨3, ![1, 64, 32]⟩
abbrev S1x64x32x1 : Shape := ⟨4, ![1, 64, 32, 1]⟩
abbrev S1x1x1x2048 : Shape := ⟨4, ![1, 1, 1, 2048]⟩
abbrev S1x64x32x2048 : Shape := ⟨4, ![1, 64, 32, 2048]⟩
abbrev S1x64x32x768 : Shape := ⟨4, ![1, 64, 32, 768]⟩
abbrev S64x1024x1x32 : Shape := ⟨4, ![64, 1024, 1, 32]⟩
abbrev S1x64x32x1024 : Shape := ⟨4, ![1, 64, 32, 1024]⟩
abbrev S64x768x1x32 : Shape := ⟨4, ![64, 768, 1, 32]⟩
abbrev S1x64x2048x768 : Shape := ⟨4, ![1, 64, 2048, 768]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S64x768, .f32⟩
  | .hbm, ⟨2, _⟩ => ⟨S64x1024x768, .f32⟩
  | .hbm, ⟨3, _⟩ => ⟨S64x768x1024, .f32⟩
  | .hbm, ⟨4, _⟩ => ⟨S1x2048x64, .f32⟩
  | .hbm, ⟨5, _⟩ => ⟨S_, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048x1, .f32⟩
  | .hbm, ⟨11, _⟩ => ⟨S1x2048x64, .f32⟩
  | .hbm, ⟨12, _⟩ => ⟨S1x2048x64, .f32⟩
  | .hbm, ⟨13, _⟩ => ⟨S1x2048x64, .f32⟩
  | .hbm, ⟨14, _⟩ => ⟨S_, .f32⟩
  | .hbm, ⟨15, _⟩ => ⟨S1x2048, .f32⟩
  | .hbm, ⟨16, _⟩ => ⟨S1x2048x1, .f32⟩
  | .hbm, ⟨17, _⟩ => ⟨S1x2048x64, .f32⟩
  | .hbm, ⟨18, _⟩ => ⟨S1x2048x64, .f32⟩
  | .hbm, ⟨19, _⟩ => ⟨S1x64x2048, .f32⟩
  | .hbm, ⟨20, _⟩ => ⟨S1x64x32, .f32⟩
  | .hbm, ⟨21, _⟩ => ⟨S1x64x32, .i32⟩
  | .hbm, ⟨22, _⟩ => ⟨S1x64x32x1, .i32⟩
  | .hbm, ⟨23, _⟩ => ⟨S1x1x1x2048, .i32⟩
  | .hbm, ⟨24, _⟩ => ⟨S1x64x32x2048, .i32⟩
  | .hbm, ⟨25, _⟩ => ⟨S1x64x32x2048, .i32⟩
  | .hbm, ⟨26, _⟩ => ⟨S1x64x32x2048, .i1⟩
  | .hbm, ⟨27, _⟩ => ⟨S1x64x32x2048, .f32⟩
  | .hbm, ⟨28, _⟩ => ⟨S1x64x32x768, .f32⟩
  | .hbm, ⟨29, _⟩ => ⟨S64x1024x1x32, .f32⟩
  | .hbm, ⟨30, _⟩ => ⟨S1x64x32x1024, .f32⟩
  | .hbm, ⟨31, _⟩ => ⟨S1x64x32x1024, .f32⟩
  | .hbm, ⟨32, _⟩ => ⟨S1x64x32x1024, .f32⟩
  | .hbm, ⟨33, _⟩ => ⟨S_, .f32⟩
  | .hbm, ⟨34, _⟩ => ⟨S1x64x32x1024, .f32⟩
  | .hbm, ⟨35, _⟩ => ⟨S1x64x32x1024, .f32⟩
  | .hbm, ⟨36, _⟩ => ⟨S_, .f32⟩
  | .hbm, ⟨37, _⟩ => ⟨S1x64x32x1024, .f32⟩
  | .hbm, ⟨38, _⟩ => ⟨S1x64x32x1024, .f32⟩
  | .hbm, ⟨39, _⟩ => ⟨S1x64x32x1024, .f32⟩
  | .hbm, ⟨40, _⟩ => ⟨S64x768x1x32, .f32⟩
  | .hbm, ⟨41, _⟩ => ⟨S1x64x32x768, .f32⟩
  | .hbm, ⟨42, _⟩ => ⟨S1x64x2048x768, .f32⟩
  | .hbm, ⟨43, _⟩ => ⟨S1x64x2048, .f32⟩
  | .hbm, ⟨44, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Proof.Spec.lean ====
/-
  What the kernel's scratch buffers hold, as functions of what the body reads, and one grid point's step on them. Indices and
  gates are written once, at point 0; the one-hot rows and the gathered rows of eight experts at each of the points 0..7; the
  gated output rows of expert `e` at point `e`; the combined result at point 63.
-/
module

public import proofs.«01_k».proof.Proof.Gen.KernelIdeal.Frame
public import proofs.«01_k».proof.Proof.Gen.KernelIdeal.Skeleton
public import Idealize.ShloMosaic.Lib.ValueIdx
public import Idealize.ShloMosaic.Lib.Writes

@[expose] public section

noncomputable section

namespace Cert.KernelIdeal.Hand

open Cert.KernelIdeal Cert.KernelIdeal.Gen
open Idealize.ShloMosaic Idealize.ShloMosaic.ValueIdx

variable {F : FTy → Type} [FloatOps F]

/-! ## Rows and blocks of the scratch arrays -/

/-- Row `e` of a 64 × 32 array, as a 1 × 32 one. -/
def row1 {α : Type} (v : S64x32.Idx → α) (e : Fin 64) : S1x32.Idx → α := fun j => v (ix2 e (j 1))
/-- Rows `32 e ..` of a 2048 × 768 array. -/
def blk32 {α : Type} (v : S2048x768.Idx → α) (e : Fin 64) : S32x768.Idx → α :=
  fun j => v (ix2 ⟨32 * e.val + (j 0).val, by have := e.isLt; have : (j 0).val < 32 := (j 0).isLt; omega⟩ (j 1))
/-- Rows `256 b ..` of a 2048 × 2048 array. -/
def blk256 {α : Type} (v : S2048x2048.Idx → α) (b : Fin 8) : S256x2048.Idx → α :=
  fun j => v (ix2 ⟨256 * b.val + (j 0).val, by have := b.isLt; have : (j 0).val < 256 := (j 0).isLt; omega⟩ (j 1))

/-- The expert of a row of the 2048 = 64 · 32 rows, and the row's number within the expert. -/
def ex (q : Fin 2048) : Fin 64 := ⟨q.val / 32, by have := q.isLt; omega⟩
def kk (q : Fin 2048) : Fin 32 := ⟨q.val % 32, Nat.mod_lt _ (by norm_num)⟩

/-! ## What each scratch buffer holds -/

/-- The selection's carried state after its 32 rounds: what is left of the probabilities, the indices, the gates. -/
def sel (x : Vec F S2048x768 .f32) (ch : Vec F S64x768 .f32) : FVec F S64x2048 .f32 × IVec S64x32 32 × FVec F S64x32 .f32 :=
  Scf.fold (n := k0_t1_loop.trips) (fun k (a : FVec F S64x2048 .f32 × IVec S64x32 32 × FVec F S64x32 .f32) =>
    (k0_pay19 a.1, k0_pay20 k a.1 a.2.1, k0_pay21 k a.1 a.2.2)) (k0_pay14 x ch, k0_pay15, k0_pay16)
/-- The one-hot rows of all experts from the indices. -/
def ctOf (idx : S64x32.Idx → Elt F .i32) : S2048x2048.Idx → Elt F .bf16 :=
  fun j => k0_pay2 (row1 idx (ex (j 0))) (ix2 (kk (j 0)) (j 1))
/-- The gathered rows from the one-hot rows, block of 256 by block. -/
def xgOf (ct : S2048x2048.Idx → Elt F .bf16) (xb : S2048x768.Idx → Elt F .bf16) : S2048x768.Idx → Elt F .f32 :=
  fun j => k0_pay24 (blk256 ct ⟨(j 0).val / 256, by have : (j 0).val < 2048 := (j 0).isLt; omega⟩) xb
    (ix2 ⟨(j 0).val % 256, Nat.mod_lt _ (by norm_num)⟩ (j 1))
/-- Expert `e`'s 32 gated output rows. -/
def yRow (gate : S64x32.Idx → Elt F .f32) (xg : S2048x768.Idx → Elt F .f32) (w1 : S1x1024x768.Idx → Elt F .f32)
    (w2 : S1x768x1024.Idx → Elt F .f32) (e : Fin 64) : S32x768.Idx → Elt F .bf16 :=
  k0_pay25 (row1 gate e) (blk32 xg e) w1 w2
/-- The gated output rows of all experts. -/
def yOf (gate : S64x32.Idx → Elt F .f32) (xg : S2048x768.Idx → Elt F .f32) (W1 : Fin 64 → S1x1024x768.Idx → Elt F .f32)
    (W2 : Fin 64 → S1x768x1024.Idx → Elt F .f32) : S2048x768.Idx → Elt F .bf16 :=
  fun j => yRow gate xg (W1 (ex (j 0))) (W2 (ex (j 0))) (ex (j 0)) (ix2 (kk (j 0)) (j 1))

/-- The kernel's result: the one-hot rows' transpose times the gated output rows. -/
def outOf (x : Vec F S2048x768 .f32) (ch : Vec F S64x768 .f32) (W1 : Fin 64 → S1x1024x768.Idx → Elt F .f32)
    (W2 : Fin 64 → S1x768x1024.Idx → Elt F .f32) : S2048x768.Idx → Elt F .f32 :=
  k0_pay1 (ctOf (sel x ch).2.1)
    (yOf (sel x ch).2.2 (xgOf (ctOf (sel x ch).2.1) (k0_pay13 x)) W1 W2)

/-! ## One grid point's step -/

/-- The contents the body works on: the result's staging buffer and the six scratch buffers. -/
structure St (F : FTy → Type) [FloatOps F] where
  out : S2048x768.Idx → Elt F .f32
  idx : S64x32.Idx → Elt F .i32
  gate : S64x32.Idx → Elt F .f32
  ct : S2048x2048.Idx → Elt F .bf16
  xb : S2048x768.Idx → Elt F .bf16
  xg : S2048x768.Idx → Elt F .f32
  y : S2048x768.Idx → Elt F .bf16

/-- The one-hot rows after a point that writes the rows of eight experts. -/
def stepCt (e : ℕ) (idx : S64x32.Idx → Elt F .i32) (ct : S2048x2048.Idx → Elt F .bf16) : S2048x2048.Idx → Elt F .bf16 :=
  fun j => if (j 0).val / 256 = e then ctOf idx j else ct j
/-- The gathered rows after such a point. -/
def stepXg (e : ℕ) (ct : S2048x2048.Idx → Elt F .bf16) (xb : S2048x768.Idx → Elt F .bf16) (xg : S2048x768.Idx → Elt F .f32) :
    S2048x768.Idx → Elt F .f32 :=
  fun j => if (j 0).val / 256 = e then xgOf ct xb j else xg j
/-- The gated output rows after any point. -/
def stepY (e : Fin 64) (gate : S64x32.Idx → Elt F .f32) (xg : S2048x768.Idx → Elt F .f32) (w1 : S1x1024x768.Idx → Elt F .f32)
    (w2 : S1x768x1024.Idx → Elt F .f32) (y : S2048x768.Idx → Elt F .bf16) : S2048x768.Idx → Elt F .bf16 :=
  fun j => if ex (j 0) = e then yRow gate xg w1 w2 e (ix2 (kk (j 0)) (j 1)) else y j

/-- The indices, gates and input rows written at point 0. -/
def step1 (e : Fin 64) (x : Vec F S2048x768 .f32) (ch : Vec F S64x768 .f32) (s : St F) : St F :=
  if e.val = 0 then { s with idx := (sel x ch).2.1, gate := (sel x ch).2.2, xb := k0_pay13 x } else s
/-- The one-hot and gathered rows written at points 0..7. -/
def step2 (e : Fin 64) (s : St F) : St F :=
  if e.val < 8 then { s with ct := stepCt e.val s.idx s.ct, xg := stepXg e.val (stepCt e.val s.idx s.ct) s.xb s.xg } else s
/-- The gated output rows of expert `e`. -/
def step3 (e : Fin 64) (w1 : S1x1024x768.Idx → Elt F .f32) (w2 : S1x768x1024.Idx → Elt F .f32) (s : St F) : St F :=
  { s with y := stepY e s.gate s.xg w1 w2 s.y }
/-- The result at point 63. -/
def step4 (e : Fin 64) (s : St F) : St F := if e.val = 63 then { s with out := k0_pay1 s.ct s.y } else s
/-- One grid point. -/
def step (e : Fin 64) (x : Vec F S2048x768 .f32) (ch : Vec F S64x768 .f32) (w1 : S1x1024x768.Idx → Elt F .f32)
    (w2 : S1x768x1024.Idx → Elt F .f32) (s : St F) : St F := step4 e (step3 e w1 w2 (step2 e (step1 e x ch s)))

/-! ## What holds between the points -/

/-- Before point `n` (nothing before the first): the indices, gates and input rows are the kernel's; the one-hot and gathered
    rows are right on the blocks written so far, the gated rows on the experts visited so far. -/
def Inv (n : ℕ) (x : Vec F S2048x768 .f32) (ch : Vec F S64x768 .f32) (W1 : Fin 64 → S1x1024x768.Idx → Elt F .f32)
    (W2 : Fin 64 → S1x768x1024.Idx → Elt F .f32) (s : St F) : Prop :=
  0 < n → s.idx = (sel x ch).2.1 ∧ s.gate = (sel x ch).2.2 ∧ s.xb = k0_pay13 x
    ∧ (∀ j, (j 0).val < 256 * n → s.ct j = ctOf (sel x ch).2.1 j)
    ∧ (∀ j, (j 0).val < 256 * n → s.xg j = xgOf (ctOf (sel x ch).2.1) (k0_pay13 x) j)
    ∧ ∀ j, (j 0).val < 32 * n → s.y j = yOf (sel x ch).2.2 (xgOf (ctOf (sel x ch).2.1) (k0_pay13 x)) W1 W2 j

/-- The gathered rows of a block depend on that block's one-hot rows alone. -/
theorem xgOf_congr {ct ct' : S2048x2048.Idx → Elt F .bf16} (xb : S2048x768.Idx → Elt F .bf16) (j : S2048x768.Idx)
    (h : ∀ i : S2048x2048.Idx, (i 0).val / 256 = (j 0).val / 256 → ct i = ct' i) : xgOf ct xb j = xgOf ct' xb j := by
  unfold xgOf
  congr 1
  funext i
  unfold blk256
  refine h _ ?_
  have : (i 0).val < 256 := (i 0).isLt
  show (256 * ((j 0).val / 256) + (i 0).val) / 256 = _
  omega

/-- The invariant is kept by a point's step. -/
theorem Inv.step {n : ℕ} {x : Vec F S2048x768 .f32} {ch : Vec F S64x768 .f32} {W1 : Fin 64 → S1x1024x768.Idx → Elt F .f32}
    {W2 : Fin 64 → S1x768x1024.Idx → Elt F .f32} {s : St F} (e : Fin 64) (he : e.val = n) (h : Inv n x ch W1 W2 s) :
    Inv (n + 1) x ch W1 W2 (step e x ch (W1 e) (W2 e) s) := by
  intro _
  unfold Hand.step
  -- after the first stage the three small facts hold
  obtain ⟨h1, h2, h3, h4, h5, h6⟩ : (step1 e x ch s).idx = (sel x ch).2.1 ∧ (step1 e x ch s).gate = (sel x ch).2.2
      ∧ (step1 e x ch s).xb = k0_pay13 x
      ∧ (∀ j, (j 0).val < 256 * n → (step1 e x ch s).ct j = ctOf (sel x ch).2.1 j)
      ∧ (∀ j, (j 0).val < 256 * n → (step1 e x ch s).xg j = xgOf (ctOf (sel x ch).2.1) (k0_pay13 x) j)
      ∧ ∀ j, (j 0).val < 32 * n → (step1 e x ch s).y j = yOf (sel x ch).2.2 (xgOf (ctOf (sel x ch).2.1) (k0_pay13 x)) W1 W2 j := by
    unfold step1
    by_cases h0 : e.val = 0
    · rw [if_pos h0]
      have hn : n = 0 := by omega
      subst hn
      exact ⟨rfl, rfl, rfl, fun j hj => absurd hj (by omega), fun j hj => absurd hj (by omega), fun j hj => absurd hj (by omega)⟩
    · rw [if_neg h0]; exact h (by omega)
  generalize step1 e x ch s = s1 at *
  have key : (step2 e s1).idx = (sel x ch).2.1 ∧ (step2 e s1).gate = (sel x ch).2.2 ∧ (step2 e s1).xb = k0_pay13 x
      ∧ (∀ j, (j 0).val < 256 * (n + 1) → (step2 e s1).ct j = ctOf (sel x ch).2.1 j)
      ∧ (∀ j, (j 0).val < 256 * (n + 1) → (step2 e s1).xg j = xgOf (ctOf (sel x ch).2.1) (k0_pay13 x) j)
      ∧ (step2 e s1).y = s1.y := by
    unfold step2
    by_cases h8 : e.val < 8
    · rw [if_pos h8]
      have hct : ∀ j : S2048x2048.Idx, (j 0).val < 256 * (n + 1) → stepCt e.val s1.idx s1.ct j = ctOf (sel x ch).2.1 j := by
        intro j hj
        unfold stepCt
        split
        · rw [h1]
        · exact h4 j (by omega)
      refine ⟨h1, h2, h3, hct, ?_, rfl⟩
      intro j hj
      show stepXg _ _ _ _ j = _
      unfold stepXg
      split
      · rw [h3]
        exact xgOf_congr _ _ fun i hi => hct i (by omega)
      · exact h5 j (by omega)
    · rw [if_neg h8]
      have a (j : S2048x2048.Idx) : (j 0).val < 2048 := (j 0).isLt
      have b (j : S2048x768.Idx) : (j 0).val < 2048 := (j 0).isLt
      exact ⟨h1, h2, h3, fun j _ => h4 j (by have := a j; omega), fun j _ => h5 j (by have := b j; omega), rfl⟩
  obtain ⟨k1, k2, k3, k4, k5, k6⟩ := key
  generalize step2 e s1 = s2 at *
  have h3' : (step3 e (W1 e) (W2 e) s2).idx = (sel x ch).2.1 ∧ (step3 e (W1 e) (W2 e) s2).gate = (sel x ch).2.2
      ∧ (step3 e (W1 e) (W2 e) s2).xb = k0_pay13 x
      ∧ (∀ j, (j 0).val < 256 * (n + 1) → (step3 e (W1 e) (W2 e) s2).ct j = ctOf (sel x ch).2.1 j)
      ∧ (∀ j, (j 0).val < 256 * (n + 1) → (step3 e (W1 e) (W2 e) s2).xg j = xgOf (ctOf (sel x ch).2.1) (k0_pay13 x) j)
      ∧ ∀ j, (j 0).val < 32 * (n + 1) → (step3 e (W1 e) (W2 e) s2).y j
          = yOf (sel x ch).2.2 (xgOf (ctOf (sel x ch).2.1) (k0_pay13 x)) W1 W2 j := by
    refine ⟨k1, k2, k3, k4, k5, ?_⟩
    intro j hj
    show stepY e s2.gate s2.xg (W1 e) (W2 e) s2.y j = _
    unfold stepY
    split
    next hex =>
      subst hex
      unfold yOf yRow
      rw [k2]
      congr 1
      funext i
      unfold blk32
      refine k5 _ ?_
      have : (i 0).val < 32 := (i 0).isLt
      have : (ex (j 0)).val = n := he
      show 32 * (ex (j 0)).val + (i 0).val < _
      omega
    next hex =>
      rw [k6]
      refine h6 j ?_
      have : ¬ (j 0).val / 32 = e.val := fun h => hex (Fin.ext h)
      omega
  unfold step4
  split
  · exact h3'
  · exact h3'

/-- After the last point the result's buffer holds the kernel's result. -/
theorem Inv.out {x : Vec F S2048x768 .f32} {ch : Vec F S64x768 .f32} {W1 : Fin 64 → S1x1024x768.Idx → Elt F .f32}
    {W2 : Fin 64 → S1x768x1024.Idx → Elt F .f32} {s : St F} (e : Fin 64) (he : e.val = 63) (h : Inv 63 x ch W1 W2 s) :
    (Hand.step e x ch (W1 e) (W2 e) s).out = outOf x ch W1 W2 := by
  obtain ⟨-, -, -, h4, -, h6⟩ := (h.step e he) (by norm_num)
  unfold Hand.step step4 at *
  rw [if_pos he] at *
  show k0_pay1 _ _ = k0_pay1 _ _
  congr 1
  · funext j; exact h4 j (by have : (j 0).val < 2048 := (j 0).isLt; omega)
  · funext j; exact h6 j (by have : (j 0).val < 2048 := (j 0).isLt; omega)

end Cert.KernelIdeal.Hand

end
-- ==== Proof.Stores.lean ====
/-
  What the kernel's loads read and what its stores leave, at the block offsets of one grid point.
-/
module

public import proofs.«01_k».proof.Proof.Spec

@[expose] public section

noncomputable section

namespace Cert.KernelIdeal.Hand

open Cert.KernelIdeal Cert.KernelIdeal.Gen
open Idealize.ShloMosaic Idealize.ShloMosaic.ValueIdx

variable {F : FTy → Type} [FloatOps F]

/-! ## The loop conditions of the grid -/

theorem cond1_iff : ∀ i : grid0.Coords, k0_cond1 i = 1#1 ↔ (i 0).val = 0 := by decide +kernel
theorem cond2_iff : ∀ i : grid0.Coords, k0_cond2 i = 1#1 ↔ (i 0).val < 8 := by decide +kernel
theorem cond3_iff : ∀ i : grid0.Coords, k0_cond3 i = 1#1 ↔ (i 0).val = 63 := by decide +kernel

/-- The expert a grid point works on. -/
def eOf (i : grid0.Coords) : Fin 64 := i 0

/-! ## Loads -/

/-- A load of a whole buffer reads its contents. -/
theorem readAt_all {sp : Space} {S : Shape} {e : EltTy} (v : View sig .tc sp S e) {off : Fin S.rank → Nat} (h : off = fun _ => 0)
    (inb : ∀ a, off a + S.size a ≤ S.size a) (f : v.ty.Contents (Elt F)) :
    View.readAt (Elt F) v (Rect.unit off S.size inb).toLoadRect f = v.read (Elt F) f := by
  subst h
  funext x
  rw [View.readAt_apply]
  congr 1
  funext a
  exact Fin.ext (by rw [LoadRect.idx_apply]; show 0 + 1 * (x a).val = _; omega)

/-- A store of a whole buffer leaves its payload. -/
theorem read_all {sp : Space} {S : Shape} {e : EltTy} (v : View sig .tc sp S e) {off : Fin S.rank → Nat} (h : off = fun _ => 0)
    (inb : ∀ a, off a + S.size a ≤ S.size a) (f : v.ty.Contents (Elt F)) (w : S.Idx → Elt F e) :
    v.read (Elt F) (v.writes (Elt F) f [⟨Rect.unit off S.size inb, w⟩]) = w := by
  subst h
  funext y
  exact View.read_writes_cons_hit_of_coords v f (Rect.unit (fun _ => 0) S.size inb) w [] y y fun a => by show (y a).val = 0 + 1 * (y a).val; omega

/-- A load of one row of a 64 × 32 buffer. -/
theorem readAt_row {sp : Space} {e : EltTy} (v : View sig .tc sp S64x32 e) {off : Fin 2 → Nat} (b : Fin 64) (h : off = ![b.val, 0])
    (inb : ∀ a, off a + S1x32.size a ≤ S64x32.size a) (f : v.ty.Contents (Elt F)) :
    View.readAt (Elt F) v (Rect.unit (s := S64x32) off S1x32.size inb).toLoadRect f = row1 (v.read (Elt F) f) b := by
  subst h
  funext x
  rw [View.readAt_apply]
  unfold row1
  congr 1
  funext a
  have h0 : (x 0).val < 1 := (x 0).isLt
  match a with
  | 0 => exact Fin.ext (by rw [LoadRect.idx_apply]; show b.val + 1 * (x 0).val = b.val; omega)
  | 1 => exact Fin.ext (by rw [LoadRect.idx_apply]; show 0 + 1 * (x 1).val = (x 1).val; omega)

/-- A load of 32 rows of a 2048 × 768 buffer. -/
theorem readAt_blk32 {sp : Space} {e : EltTy} (v : View sig .tc sp S2048x768 e) {off : Fin 2 → Nat} (b : Fin 64) (h : off = ![32 * b.val, 0])
    (inb : ∀ a, off a + S32x768.size a ≤ S2048x768.size a) (f : v.ty.Contents (Elt F)) :
    View.readAt (Elt F) v (Rect.unit (s := S2048x768) off S32x768.size inb).toLoadRect f = blk32 (v.read (Elt F) f) b := by
  subst h
  funext x
  rw [View.readAt_apply]
  unfold blk32
  congr 1
  funext a
  match a with
  | 0 => exact Fin.ext (by rw [LoadRect.idx_apply]; show 32 * b.val + 1 * (x 0).val = 32 * b.val + (x 0).val; omega)
  | 1 => exact Fin.ext (by rw [LoadRect.idx_apply]; show 0 + 1 * (x 1).val = (x 1).val; omega)

/-- A load of 256 rows of a 2048 × 2048 buffer. -/
theorem readAt_blk256 {sp : Space} {e : EltTy} (v : View sig .tc sp S2048x2048 e) {off : Fin 2 → Nat} (b : Fin 8) (h : off = ![256 * b.val, 0])
    (inb : ∀ a, off a + S256x2048.size a ≤ S2048x2048.size a) (f : v.ty.Contents (Elt F)) :
    View.readAt (Elt F) v (Rect.unit (s := S2048x2048) off S256x2048.size inb).toLoadRect f = blk256 (v.read (Elt F) f) b := by
  subst h
  funext x
  rw [View.readAt_apply]
  unfold blk256
  congr 1
  funext a
  match a with
  | 0 => exact Fin.ext (by rw [LoadRect.idx_apply]; show 256 * b.val + 1 * (x 0).val = 256 * b.val + (x 0).val; omega)
  | 1 => exact Fin.ext (by rw [LoadRect.idx_apply]; show 0 + 1 * (x 1).val = (x 1).val; omega)

/-! ## Stores -/

/-- The store of one expert's one-hot rows, at the offset of row `r` of the point's eight. -/
def strip (i : grid0.Coords) (h2 : k0_cond2 i = 1#1) (idx : S64x32.Idx → Elt F .i32) (r : Fin 8) : View.Piece (Elt F) S2048x2048 .bf16 :=
  ⟨Rect.unit (k0_off2 i (BitVec.ofNat 32 r.val)) S32x2048.size (k0_off2_inb i h2 r),
    k0_pay2 (row1 idx ⟨8 * (i 0).val + r.val, by have := (cond2_iff i).1 h2; omega⟩)⟩

/-- What the stores of some of the eight strips leave: the one-hot rows where a strip was stored, the old contents elsewhere. -/
theorem read_strips {sp : Space} (v : View sig .tc sp S2048x2048 .bf16) (f : v.ty.Contents (Elt F)) (i : grid0.Coords)
    (h2 : k0_cond2 i = 1#1) (idx : S64x32.Idx → Elt F .i32) (y : S2048x2048.Idx) (L : List (Fin 8)) :
    v.read (Elt F) (v.writes (Elt F) f (L.map (strip i h2 idx))) y
      = if ∃ r ∈ L, (y 0).val / 32 = 8 * (i 0).val + r.val then ctOf idx y else v.read (Elt F) f y := by
  have hy : (y 0).val < 2048 := (y 0).isLt
  induction L with
  | nil => simp
  | cons r L ih =>
    rw [List.map_cons]
    by_cases hr : (y 0).val / 32 = 8 * (i 0).val + r.val
    · rw [if_pos ⟨r, List.mem_cons_self, hr⟩]
      unfold strip
      rw [View.read_writes_cons_hit_of_coords v f _ _ _ (ix2 (n0 := 32) (n1 := 2048) (kk (y 0)) (y 1)) y]
      · unfold ctOf
        exact congrArg (fun b => k0_pay2 (row1 idx b) (ix2 (kk (y 0)) (y 1))) (Fin.ext hr.symm)
      · intro a
        match a with
        | 0 =>
          show (y 0).val = k0_off2 i (BitVec.ofNat 32 r.val) 0 + 1 * ((y 0).val % 32)
          rw [k0_off2_eq]
          show _ = 256 * (i 0).val + 32 * r.val + _
          omega
        | 1 =>
          show (y 1).val = k0_off2 i (BitVec.ofNat 32 r.val) 1 + 1 * (y 1).val
          rw [k0_off2_eq]
          show _ = 0 + _
          omega
    · rw [View.read_writes_cons_miss_of_axis v f (strip i h2 idx r) _ y 0 (256 * (i 0).val + 32 * r.val) 32
        (by show k0_off2 i (BitVec.ofNat 32 r.val) 0 = _; rw [k0_off2_eq]; rfl) rfl rfl (by omega), ih]
      refine if_congr ⟨fun ⟨r', h, h'⟩ => ⟨r', List.mem_cons_of_mem _ h, h'⟩, fun ⟨r', h, h'⟩ => ?_⟩ rfl rfl
      rcases List.mem_cons.1 h with rfl | h
      · exact absurd h' hr
      · exact ⟨r', h, h'⟩

/-- All eight strips: the point's block of 256 one-hot rows. -/
theorem read_strips8 {sp : Space} (v : View sig .tc sp S2048x2048 .bf16) (f : v.ty.Contents (Elt F)) (i : grid0.Coords)
    (h2 : k0_cond2 i = 1#1) (idx : S64x32.Idx → Elt F .i32) :
    v.read (Elt F) (v.writes (Elt F) f ([7, 6, 5, 4, 3, 2, 1, 0].map (strip i h2 idx)))
      = stepCt (i 0).val idx (v.read (Elt F) f) := by
  funext y
  rw [read_strips]
  unfold stepCt
  refine if_congr ⟨fun ⟨r, _, h⟩ => by have := r.isLt; omega, fun h => ?_⟩ rfl rfl
  refine ⟨⟨(y 0).val / 32 - 8 * (i 0).val, by omega⟩, ?_, by show _ = 8 * (i 0).val + ((y 0).val / 32 - 8 * (i 0).val); omega⟩
  have hall : ∀ r : Fin 8, r ∈ ([7, 6, 5, 4, 3, 2, 1, 0] : List (Fin 8)) := by decide
  exact hall _

/-- The store of a point's block of gathered rows. -/
theorem read_gather {sp : Space} (v : View sig .tc sp S2048x768 .f32) (f : v.ty.Contents (Elt F)) (i : grid0.Coords)
    (h2 : k0_cond2 i = 1#1) {off : Fin 2 → Nat} (h : off = ![256 * (i 0).val, 0]) (inb : ∀ a, off a + S256x768.size a ≤ S2048x768.size a)
    (ct : S2048x2048.Idx → Elt F .bf16) (xb : S2048x768.Idx → Elt F .bf16) :
    v.read (Elt F) (v.writes (Elt F) f [⟨Rect.unit (s := S2048x768) off S256x768.size inb,
        k0_pay24 (blk256 ct ⟨(i 0).val, (cond2_iff i).1 h2⟩) xb⟩])
      = stepXg (i 0).val ct xb (v.read (Elt F) f) := by
  subst h
  funext y
  have hy : (y 0).val < 2048 := (y 0).isLt
  unfold stepXg
  split
  next hr =>
    rw [View.read_writes_cons_hit_of_coords v f _ _ _ (ix2 (n0 := 256) (n1 := 768) ⟨(y 0).val % 256, Nat.mod_lt _ (by norm_num)⟩ (y 1)) y]
    · unfold xgOf
      exact congrArg (fun b => k0_pay24 (blk256 ct b) xb (ix2 ⟨(y 0).val % 256, Nat.mod_lt _ (by norm_num)⟩ (y 1))) (Fin.ext hr.symm)
    · intro a
      match a with
      | 0 => show (y 0).val = 256 * (i 0).val + 1 * ((y 0).val % 256); omega
      | 1 => show (y 1).val = 0 + 1 * (y 1).val; omega
  next hr =>
    rw [View.read_writes_cons_miss_of_axis v f _ _ y 0 (256 * (i 0).val) 256 rfl rfl rfl (by omega), View.writes_nil]

/-- The store of a point's 32 gated output rows. -/
theorem read_yrow {sp : Space} (v : View sig .tc sp S2048x768 .bf16) (f : v.ty.Contents (Elt F)) (e : Fin 64)
    {off : Fin 2 → Nat} (h : off = ![32 * e.val, 0]) (inb : ∀ a, off a + S32x768.size a ≤ S2048x768.size a)
    (gate : S64x32.Idx → Elt F .f32) (xg : S2048x768.Idx → Elt F .f32) (w1 : S1x1024x768.Idx → Elt F .f32)
    (w2 : S1x768x1024.Idx → Elt F .f32) :
    v.read (Elt F) (v.writes (Elt F) f [⟨Rect.unit (s := S2048x768) off S32x768.size inb, k0_pay25 (row1 gate e) (blk32 xg e) w1 w2⟩])
      = stepY e gate xg w1 w2 (v.read (Elt F) f) := by
  subst h
  funext y
  have hy : (y 0).val < 2048 := (y 0).isLt
  unfold stepY
  split
  next hr =>
    have hr' : (y 0).val / 32 = e.val := congrArg Fin.val hr
    rw [View.read_writes_cons_hit_of_coords v f _ _ _ (ix2 (n0 := 32) (n1 := 768) (kk (y 0)) (y 1)) y]
    · rfl
    · intro a
      match a with
      | 0 => show (y 0).val = 32 * e.val + 1 * ((y 0).val % 32); omega
      | 1 => show (y 1).val = 0 + 1 * (y 1).val; omega
  next hr =>
    have hr' : ¬ (y 0).val / 32 = e.val := fun h => hr (Fin.ext h)
    rw [View.read_writes_cons_miss_of_axis v f _ _ y 0 (32 * e.val) 32 rfl rfl rfl (by omega), View.writes_nil]

end Cert.KernelIdeal.Hand

end
-- ==== Proof.Body.lean ====
/-
  The kernel's body at one grid point, run once for each of the four kinds of point: the first, the seven after it, the others, the
  last. What the run leaves in the buffers is the point's step (`step`).
-/
module

public import proofs.«01_k».proof.Proof.Stores
public import Idealize.ShloMosaic.Lib.Tactic
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The raw contents of a memref's buffer on core `c`. -/
abbrev Bf (c : Dev nD) {sp : Space} {S : Shape} {e : EltTy} (M : Memref sig .tc sp S e) : Type := Buf (Elt F) (M.view.loc (c : Thread nD τ))
/-- A memref's buffer on core `c` held whole. -/
abbrev pt (c : Dev nD) {sp : Space} {S : Shape} {e : EltTy} (M : Memref sig .tc sp S e) (f : Bf (F := F) c M) : sProp 𝕄 :=
  M.view.loc (c : Thread nD τ) ↦{fullShare} f

/-- The six scratch buffers: indices, gates, one-hot rows, input rows, gathered rows, gated output rows. -/
abbrev mIdx : Memref sig .tc .vmem S64x32 .i32 := Memref.whole cc0_scratch0
abbrev mGate : Memref sig .tc .vmem S64x32 .f32 := Memref.whole cc0_scratch1
abbrev mCt : Memref sig .tc .vmem S2048x2048 .bf16 := Memref.whole cc0_scratch2
abbrev mXb : Memref sig .tc .vmem S2048x768 .bf16 := Memref.whole cc0_scratch3
abbrev mXg : Memref sig .tc .vmem S2048x768 .f32 := Memref.whole cc0_scratch4
abbrev mY : Memref sig .tc .vmem S2048x768 .bf16 := Memref.whole cc0_scratch5

/-- The seven buffers' contents, read. -/
def stOf (c : Dev nD) (M5 : Memref sig .tc .vmem S2048x768 .f32) (f5 : Bf (F := F) c M5) (f6 : Bf (F := F) c mIdx)
    (f7 : Bf (F := F) c mGate) (f8 : Bf (F := F) c mCt) (f9 : Bf (F := F) c mXb) (f10 : Bf (F := F) c mXg) (f11 : Bf (F := F) c mY) : St F :=
  ⟨M5.view.read (Elt F) f5, mIdx.view.read (Elt F) f6, mGate.view.read (Elt F) f7, mCt.view.read (Elt F) f8,
    mXb.view.read (Elt F) f9, mXg.view.read (Elt F) f10, mY.view.read (Elt F) f11⟩

variable (F) in
/-- The body's triple at one grid point, for any continuation: from all eleven buffers held whole, the body runs to its return and
    hands them back, the four operands unchanged, the other seven at contents that read as the step of what they held. -/
def BodyRuns (c : Dev nD) (i : grid0.Coords) : Prop :=
  ∀ (M1 : Memref sig .tc .vmem S2048x768 .f32) (w1 : M1.IsWhole)
    (M2 : Memref sig .tc .vmem S64x768 .f32) (w2 : M2.IsWhole)
    (M3 : Memref sig .tc .vmem S1x1024x768 .f32) (w3 : M3.IsWhole)
    (M4 : Memref sig .tc .vmem S1x768x1024 .f32) (w4 : M4.IsWhole)
    (M5 : Memref sig .tc .vmem S2048x768 .f32) (w5 : M5.IsWhole)
    (f1 : Bf (F := F) c M1) (f2 : Bf (F := F) c M2) (f3 : Bf (F := F) c M3) (f4 : Bf (F := F) c M4) (f5 : Bf (F := F) c M5)
    (f6 : Bf (F := F) c mIdx) (f7 : Bf (F := F) c mGate) (f8 : Bf (F := F) c mCt) (f9 : Bf (F := F) c mXb) (f10 : Bf (F := F) c mXg)
    (f11 : Bf (F := F) c mY) (Q : PUnit → sProp 𝕄),
    iprop(pt c M1 f1 ∗ pt c M2 f2 ∗ pt c M3 f3 ∗ pt c M4 f4 ∗ pt c M5 f5
      ∗ pt c mIdx f6 ∗ pt c mGate f7 ∗ pt c mCt f8 ∗ pt c mXb f9 ∗ pt c mXg f10 ∗ pt c mY f11
      ∗ (iprop(∃ g5 : Bf (F := F) c M5, ∃ g6 : Bf (F := F) c mIdx, ∃ g7 : Bf (F := F) c mGate, ∃ g8 : Bf (F := F) c mCt,
          ∃ g9 : Bf (F := F) c mXb, ∃ g10 : Bf (F := F) c mXg, ∃ g11 : Bf (F := F) c mY,
          ⌜stOf c M5 g5 g6 g7 g8 g9 g10 g11 = step (eOf i) (M1.view.read (Elt F) f1) (M2.view.read (Elt F) f2)
            (M3.view.read (Elt F) f3) (M4.view.read (Elt F) f4) (stOf c M5 f5 f6 f7 f8 f9 f10 f11)⌝
          ∗ pt c M1 f1 ∗ pt c M2 f2 ∗ pt c M3 f3 ∗ pt c M4 f4 ∗ pt c M5 g5
          ∗ pt c mIdx g6 ∗ pt c mGate g7 ∗ pt c mCt g8 ∗ pt c mXb g9 ∗ pt c mXg g10 ∗ pt c mY g11) -∗ Q ⟨⟩))
    ⊢ wp frame (wpE (defs₀ (F := F)) Variants.none c none) Set.univ
        (cc0__moe_body i M1 w1 M2 w2 M3 w3 M4 w4 M5 w5 mIdx (Memref.isWhole_whole _) mGate (Memref.isWhole_whole _)
          mCt (Memref.isWhole_whole _) mXb (Memref.isWhole_whole _) mXg (Memref.isWhole_whole _) mY (Memref.isWhole_whole _)) Q

/-- The offsets written out are zero on both axes. -/
theorem zero2 : (![0, 0] : Fin 2 → Nat) = fun _ => 0 := by decide
/-- The offsets written out are zero on all three axes. -/
theorem zero3 : (![0, 0, 0] : Fin 3 → Nat) = fun _ => 0 := by decide

/-- The step at the points after the eighth and before the last. -/
theorem step_late (e : Fin 64) (h1 : ¬ e.val = 0) (h2 : ¬ e.val < 8) (h3 : ¬ e.val = 63) (x : Vec F S2048x768 .f32) (ch : Vec F S64x768 .f32)
    (w1 : S1x1024x768.Idx → Elt F .f32) (w2 : S1x768x1024.Idx → Elt F .f32) (s : St F) :
    step e x ch w1 w2 s = { s with y := stepY e s.gate s.xg w1 w2 s.y } := by
  unfold step step4 step3 step2 step1; rw [if_neg h1, if_neg h2, if_neg h3]

/-- The step at the last point. -/
theorem step_last (e : Fin 64) (h1 : ¬ e.val = 0) (h2 : ¬ e.val < 8) (h3 : e.val = 63) (x : Vec F S2048x768 .f32) (ch : Vec F S64x768 .f32)
    (w1 : S1x1024x768.Idx → Elt F .f32) (w2 : S1x768x1024.Idx → Elt F .f32) (s : St F) :
    step e x ch w1 w2 s
      = { s with y := stepY e s.gate s.xg w1 w2 s.y, out := k0_pay1 s.ct (stepY e s.gate s.xg w1 w2 s.y) } := by
  unfold step step4 step3 step2 step1; rw [if_neg h1, if_neg h2, if_pos h3]

/-- The step at points 1..7. -/
theorem step_early (e : Fin 64) (h1 : ¬ e.val = 0) (h2 : e.val < 8) (h3 : ¬ e.val = 63) (x : Vec F S2048x768 .f32) (ch : Vec F S64x768 .f32)
    (w1 : S1x1024x768.Idx → Elt F .f32) (w2 : S1x768x1024.Idx → Elt F .f32) (s : St F) :
    step e x ch w1 w2 s
      = { s with ct := stepCt e.val s.idx s.ct, xg := stepXg e.val (stepCt e.val s.idx s.ct) s.xb s.xg,
                 y := stepY e s.gate (stepXg e.val (stepCt e.val s.idx s.ct) s.xb s.xg) w1 w2 s.y } := by
  unfold step step4 step3 step2 step1; rw [if_neg h1, if_pos h2, if_neg h3]

/-- The step at the first point. -/
theorem step_first (e : Fin 64) (h1 : e.val = 0) (h2 : e.val < 8) (h3 : ¬ e.val = 63) (x : Vec F S2048x768 .f32) (ch : Vec F S64x768 .f32)
    (w1 : S1x1024x768.Idx → Elt F .f32) (w2 : S1x768x1024.Idx → Elt F .f32) (s : St F) :
    step e x ch w1 w2 s
      = { out := s.out, idx := (sel x ch).2.1, gate := (sel x ch).2.2, xb := k0_pay13 x,
          ct := stepCt e.val (sel x ch).2.1 s.ct,
          xg := stepXg e.val (stepCt e.val (sel x ch).2.1 s.ct) (k0_pay13 x) s.xg,
          y := stepY e (sel x ch).2.2 (stepXg e.val (stepCt e.val (sel x ch).2.1 s.ct) (k0_pay13 x) s.xg) w1 w2 s.y } := by
  unfold step step4 step3 step2 step1; rw [if_pos h1, if_pos h2, if_neg h3]

/-- The eight strips the body stores, in the order of the stores, each row of indices read from the index buffer. -/
theorem strips_eq (i : grid0.Coords) (h2 : k0_cond2 i = 1#1) (f : mIdx.view.ty.Contents (Elt F)) :
    ([⟨Rect.unit (s := S2048x2048) (k0_off2 i 7#32) S32x2048.size (k0_off2_inb i h2 7), k0_pay11 (iota .tc S32x2048 32 [1] iota_S32x2048_d1_w32)
          (View.readAt (Elt F) mIdx.view (Rect.unit (s := S64x32) (k0_off1 i 7#32) S1x32.size (k0_off1_inb i h2 7)).toLoadRect f)⟩,
      ⟨Rect.unit (s := S2048x2048) (k0_off2 i 6#32) S32x2048.size (k0_off2_inb i h2 6), k0_pay10 (iota .tc S32x2048 32 [1] iota_S32x2048_d1_w32)
          (View.readAt (Elt F) mIdx.view (Rect.unit (s := S64x32) (k0_off1 i 6#32) S1x32.size (k0_off1_inb i h2 6)).toLoadRect f)⟩,
      ⟨Rect.unit (s := S2048x2048) (k0_off2 i 5#32) S32x2048.size (k0_off2_inb i h2 5), k0_pay9 (iota .tc S32x2048 32 [1] iota_S32x2048_d1_w32)
          (k0_pay8 (View.readAt (Elt F) mIdx.view (Rect.unit (s := S64x32) (k0_off1 i 5#32) S1x32.size (k0_off1_inb i h2 5)).toLoadRect f))⟩,
      ⟨Rect.unit (s := S2048x2048) (k0_off2 i 4#32) S32x2048.size (k0_off2_inb i h2 4), k0_pay7 (iota .tc S32x2048 32 [1] iota_S32x2048_d1_w32)
          (View.readAt (Elt F) mIdx.view (Rect.unit (s := S64x32) (k0_off1 i 4#32) S1x32.size (k0_off1_inb i h2 4)).toLoadRect f)⟩,
      ⟨Rect.unit (s := S2048x2048) (k0_off2 i 3#32) S32x2048.size (k0_off2_inb i h2 3), k0_pay6 (iota .tc S32x2048 32 [1] iota_S32x2048_d1_w32)
          (View.readAt (Elt F) mIdx.view (Rect.unit (s := S64x32) (k0_off1 i 3#32) S1x32.size (k0_off1_inb i h2 3)).toLoadRect f)⟩,
      ⟨Rect.unit (s := S2048x2048) (k0_off2 i 2#32) S32x2048.size (k0_off2_inb i h2 2),
        k0_pay5 (k0_pay4 (View.readAt (Elt F) mIdx.view (Rect.unit (s := S64x32) (k0_off1 i 2#32) S1x32.size (k0_off1_inb i h2 2)).toLoadRect f))⟩,
      ⟨Rect.unit (s := S2048x2048) (k0_off2 i 1#32) S32x2048.size (k0_off2_inb i h2 1),
        k0_pay3 (View.readAt (Elt F) mIdx.view (Rect.unit (s := S64x32) (k0_off1 i 1#32) S1x32.size (k0_off1_inb i h2 1)).toLoadRect f)⟩,
      ⟨Rect.unit (s := S2048x2048) (k0_off2 i 0#32) S32x2048.size (k0_off2_inb i h2 0),
        k0_pay2 (View.readAt (Elt F) mIdx.view (Rect.unit (s := S64x32) (k0_off1 i 0#32) S1x32.size (k0_off1_inb i h2 0)).toLoadRect f)⟩]
      : List (View.Piece (Elt F) S2048x2048 .bf16))
      = [7, 6, 5, 4, 3, 2, 1, 0].map (strip i h2 (mIdx.view.read (Elt F) f)) := by
  have hl (r : Fin 8) : View.readAt (Elt F) mIdx.view (Rect.unit (s := S64x32) (k0_off1 i (BitVec.ofNat 32 r.val)) S1x32.size (k0_off1_inb i h2 r)).toLoadRect f
      = row1 (mIdx.view.read (Elt F) f) ⟨8 * (i 0).val + r.val, by have := (cond2_iff i).1 h2; omega⟩ :=
    readAt_row mIdx.view ⟨8 * (i 0).val + r.val, by have := (cond2_iff i).1 h2; omega⟩ (k0_off1_eq i r) _ f
  simp only [List.map_cons, List.map_nil, strip, ← hl]
  rfl

/-- The gathered rows a point writes depend on the block of one-hot rows it writes. -/
theorem stepXg_congr (e : ℕ) (idx : S64x32.Idx → Elt F .i32) (ct ct' : S2048x2048.Idx → Elt F .bf16)
    (xb : S2048x768.Idx → Elt F .bf16) (xg : S2048x768.Idx → Elt F .f32) :
    stepXg e (stepCt e idx ct) xb xg = stepXg e (stepCt e idx ct') xb xg := by
  funext j
  unfold stepXg
  split
  next h => exact xgOf_congr xb j fun i hi => by unfold stepCt; rw [if_pos (hi.trans h), if_pos (hi.trans h)]
  · rfl

set_option maxHeartbeats 1000000 in
/-- Points 8..62: one expert's rows. -/
theorem runLate (c : Dev nD) (i : grid0.Coords) (h1 : ¬ k0_cond1 i = 1#1) (h2 : ¬ k0_cond2 i = 1#1) (h3 : ¬ k0_cond3 i = 1#1) :
    BodyRuns F c i := by
  intro M1 w1 M2 w2 M3 w3 M4 w4 M5 w5 f1 f2 f3 f4 f5 f6 f7 f8 f9 f10 f11 Q
  simp only [cc0__moe_body_eq_skeleton]; unfold cc0__moe_body_skel
  iintro ⟨H1, H2, H3, H4, H5, H6, H7, H8, H9, H10, H11, Hk⟩
  sl_exec (disch := first | sl_exact h1 | sl_exact h2 | sl_exact h3)
  sl_step
  iapply Hk
  iexists _, _, _, _, _, _, _
  isplitr
  rotate_left
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  rw [step_late (eOf i) (fun h => h1 ((cond1_iff i).2 h)) (fun h => h2 ((cond2_iff i).2 h)) (fun h => h3 ((cond3_iff i).2 h))]
  unfold stOf
  rw [readAt_row mGate.view (eOf i) (k0_off5_eq i), readAt_blk32 mXg.view (eOf i) (k0_off6_eq i), readAt_all M3.view zero3, readAt_all M4.view zero3,
    read_yrow mY.view f11 (eOf i) (k0_off6_eq i)]

set_option maxHeartbeats 1000000 in
/-- The last point: one expert's rows and the result. -/
theorem runLast (c : Dev nD) (i : grid0.Coords) (h1 : ¬ k0_cond1 i = 1#1) (h2 : ¬ k0_cond2 i = 1#1) (h3 : k0_cond3 i = 1#1) :
    BodyRuns F c i := by
  intro M1 w1 M2 w2 M3 w3 M4 w4 M5 w5 f1 f2 f3 f4 f5 f6 f7 f8 f9 f10 f11 Q
  simp only [cc0__moe_body_eq_skeleton]; unfold cc0__moe_body_skel
  iintro ⟨H1, H2, H3, H4, H5, H6, H7, H8, H9, H10, H11, Hk⟩
  sl_exec (disch := first | sl_exact h1 | sl_exact h2 | sl_exact h3)
  sl_step
  iapply Hk
  iexists _, _, _, _, _, _, _
  isplitr
  rotate_left
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  rw [step_last (eOf i) (fun h => h1 ((cond1_iff i).2 h)) (fun h => h2 ((cond2_iff i).2 h)) ((cond3_iff i).1 h3)]
  have hy : mY.view.read (Elt F) (mY.view.writes (Elt F) f11 (runLast.sl.H11_1 c i M3 M4 f3 f4 f7 f10))
      = stepY (eOf i) (mGate.view.read (Elt F) f7) (mXg.view.read (Elt F) f10) (M3.view.read (Elt F) f3) (M4.view.read (Elt F) f4)
        (mY.view.read (Elt F) f11) := by
    unfold runLast.sl.H11_1
    rw [readAt_row mGate.view (eOf i) (k0_off5_eq i), readAt_blk32 mXg.view (eOf i) (k0_off6_eq i), readAt_all M3.view zero3, readAt_all M4.view zero3,
      read_yrow mY.view f11 (eOf i) (k0_off6_eq i)]
  unfold stOf
  rw [read_all M5.view zero2, readAt_all mCt.view zero2, readAt_all mY.view zero2, hy]

set_option maxHeartbeats 1000000 in
/-- Points 1..7: eight experts' one-hot and gathered rows, and one expert's rows. -/
theorem runEarly (c : Dev nD) (i : grid0.Coords) (h1 : ¬ k0_cond1 i = 1#1) (h2 : k0_cond2 i = 1#1) (h3 : ¬ k0_cond3 i = 1#1) :
    BodyRuns F c i := by
  intro M1 w1 M2 w2 M3 w3 M4 w4 M5 w5 f1 f2 f3 f4 f5 f6 f7 f8 f9 f10 f11 Q
  simp only [cc0__moe_body_eq_skeleton]; unfold cc0__moe_body_skel
  iintro ⟨H1, H2, H3, H4, H5, H6, H7, H8, H9, H10, H11, Hk⟩
  sl_exec (disch := first | sl_exact h1 | sl_exact h2 | sl_exact h3)
  sl_step
  iapply Hk
  iexists _, _, _, _, _, _, _
  isplitr
  rotate_left
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  rw [step_early (eOf i) (fun h => h1 ((cond1_iff i).2 h)) ((cond2_iff i).1 h2) (fun h => h3 ((cond3_iff i).2 h))]
  have hct (g : Bf (F := F) c mCt) : mCt.view.read (Elt F) (mCt.view.writes (Elt F) g (runEarly.sl.H8_8 c i h2 f6))
      = stepCt (i 0).val (mIdx.view.read (Elt F) f6) (mCt.view.read (Elt F) g) := by
    have e : runEarly.sl.H8_8 c i h2 f6 = [7, 6, 5, 4, 3, 2, 1, 0].map (strip i h2 (mIdx.view.read (Elt F) f6)) := strips_eq i h2 f6
    rw [e, read_strips8]
  have hxg : mXg.view.read (Elt F) (mXg.view.writes (Elt F) f10 (runEarly.sl.H10_1 c i h2 f6 f9))
      = stepXg (i 0).val (stepCt (i 0).val (mIdx.view.read (Elt F) f6) (mCt.view.read (Elt F) f8)) (mXb.view.read (Elt F) f9)
        (mXg.view.read (Elt F) f10) := by
    unfold runEarly.sl.H10_1 runEarly.sl.v167
    unfold View.readCov
    rw [readAt_all mXb.view zero2, readAt_blk256 mCt.view ⟨(i 0).val, (cond2_iff i).1 h2⟩ (k0_off3_eq i), hct,
      read_gather mXg.view f10 i h2 (k0_off4_eq i)]
    exact stepXg_congr _ _ _ _ _ _
  unfold stOf
  rw [readAt_row mGate.view (eOf i) (k0_off5_eq i), readAt_blk32 mXg.view (eOf i) (k0_off6_eq i), readAt_all M3.view zero3, readAt_all M4.view zero3,
    read_yrow mY.view f11 (eOf i) (k0_off6_eq i), hct, hxg]
  rfl

set_option maxHeartbeats 1000000 in
/-- The first point: indices, gates and input rows besides. -/
theorem runFirst (c : Dev nD) (i : grid0.Coords) (h1 : k0_cond1 i = 1#1) (h2 : k0_cond2 i = 1#1) (h3 : ¬ k0_cond3 i = 1#1) :
    BodyRuns F c i := by
  intro M1 w1 M2 w2 M3 w3 M4 w4 M5 w5 f1 f2 f3 f4 f5 f6 f7 f8 f9 f10 f11 Q
  simp only [cc0__moe_body_eq_skeleton]; unfold cc0__moe_body_skel
  iintro ⟨H1, H2, H3, H4, H5, H6, H7, H8, H9, H10, H11, Hk⟩
  sl_exec (disch := first | sl_exact h1 | sl_exact h2 | sl_exact h3)
  sl_step
  iapply Hk
  iexists _, _, _, _, _, _, _
  isplitr
  rotate_left
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  ipureintro
  rw [step_first (eOf i) ((cond1_iff i).1 h1) ((cond2_iff i).1 h2) (fun h => h3 ((cond3_iff i).2 h))]
  have hr : runFirst.sl.r c M1 M2 f1 f2 = sel (M1.view.read (Elt F) f1) (M2.view.read (Elt F) f2) := by
    unfold runFirst.sl.r
    rw [readAt_all M1.view zero2, readAt_all M2.view zero2]
    rfl
  have hidx (g : Bf (F := F) c mIdx) : mIdx.view.read (Elt F) (mIdx.view.writes (Elt F) g (runFirst.sl.H6_1 c M1 M2 f1 f2))
      = (sel (M1.view.read (Elt F) f1) (M2.view.read (Elt F) f2)).2.1 := by
    unfold runFirst.sl.H6_1
    rw [read_all mIdx.view zero2, hr]
    exact shapeCast_self _ _
  have hgate (g : Bf (F := F) c mGate) : mGate.view.read (Elt F) (mGate.view.writes (Elt F) g (runFirst.sl.H7_1 c M1 M2 f1 f2))
      = (sel (M1.view.read (Elt F) f1) (M2.view.read (Elt F) f2)).2.2 := by
    unfold runFirst.sl.H7_1
    rw [read_all mGate.view zero2, hr]
    exact shapeCast_self _ _
  have hxb (g : Bf (F := F) c mXb) : mXb.view.read (Elt F) (mXb.view.writes (Elt F) g (runFirst.sl.H9_1 c M1 f1))
      = k0_pay13 (M1.view.read (Elt F) f1) := by
    unfold runFirst.sl.H9_1
    rw [read_all mXb.view zero2, readAt_all M1.view zero2]
  have hct (g : Bf (F := F) c mCt) : mCt.view.read (Elt F) (mCt.view.writes (Elt F) g (runFirst.sl.H8_8 c i h2 M1 M2 f1 f2))
      = stepCt (i 0).val (sel (M1.view.read (Elt F) f1) (M2.view.read (Elt F) f2)).2.1 (mCt.view.read (Elt F) g) := by
    have e : runFirst.sl.H8_8 c i h2 M1 M2 f1 f2 = [7, 6, 5, 4, 3, 2, 1, 0].map (strip i h2 (mIdx.view.read (Elt F)
        (mIdx.view.writes (Elt F) mIdx.view.junk (runFirst.sl.H6_1 c M1 M2 f1 f2)))) := strips_eq i h2 _
    rw [e, read_strips8, hidx]
  have hxg : mXg.view.read (Elt F) (mXg.view.writes (Elt F) f10 (runFirst.sl.H10_1 c i h2 M1 M2 f1 f2))
      = stepXg (i 0).val (stepCt (i 0).val (sel (M1.view.read (Elt F) f1) (M2.view.read (Elt F) f2)).2.1 (mCt.view.read (Elt F) f8))
        (k0_pay13 (M1.view.read (Elt F) f1)) (mXg.view.read (Elt F) f10) := by
    unfold runFirst.sl.H10_1 runFirst.sl.v167 runFirst.sl.v168
    unfold View.readCov
    rw [readAt_all mXb.view zero2, hxb, readAt_blk256 mCt.view ⟨(i 0).val, (cond2_iff i).1 h2⟩ (k0_off3_eq i), hct,
      read_gather mXg.view f10 i h2 (k0_off4_eq i)]
    exact stepXg_congr _ _ _ _ _ _
  unfold stOf
  rw [readAt_row mGate.view (eOf i) (k0_off5_eq i), readAt_blk32 mXg.view (eOf i) (k0_off6_eq i), readAt_all M3.view zero3, readAt_all M4.view zero3,
    read_yrow mY.view f11 (eOf i) (k0_off6_eq i), hct, hxg, hidx, hgate, hxb]
  rfl

/-- Every grid point. -/
theorem body_runs (c : Dev nD) (i : grid0.Coords) : BodyRuns F c i := by
  by_cases h1 : k0_cond1 i = 1#1
  · have e1 := (cond1_iff i).1 h1
    exact runFirst c i h1 ((cond2_iff i).2 (by omega)) (fun h => by have := (cond3_iff i).1 h; omega)
  · by_cases h2 : k0_cond2 i = 1#1
    · have e2 := (cond2_iff i).1 h2
      exact runEarly c i h1 h2 (fun h => by have := (cond3_iff i).1 h; omega)
    · by_cases h3 : k0_cond3 i = 1#1
      · exact runLast c i h1 h2 h3
      · exact runLate c i h1 h2 h3

end Cert.KernelIdeal.Hand

end
-- ==== Proof.Run.lean ====
/-
  The kernel's run: the proof data of its pipeline, the body obligation at every grid point, the launch. After the run every
  argument holds what it held, the result holds `outOf` of the blocks of the arguments, and every semaphore is at zero.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- A point's coordinate is its number. -/
theorem coord_val (t : Fin cfg0.N) : (eOf (grid0.coords t)).val = t.val :=
  (Pipeline.Grid.coords_val (G := grid0) t 0 (S := 1) (B := 64) (by decide) rfl).trans (by
    have : t.val < 64 := t.isLt
    omega)

/-- The grid point of an expert. -/
def tOf (e : Fin 64) : Fin cfg0.N := ⟨e.val, e.isLt⟩

/-- A point is the one its coordinate names. -/
theorem tOf_eOf (t : Fin cfg0.N) : tOf (eOf (grid0.coords t)) = t := Fin.ext (coord_val t)

/-! ## The blocks the body reads -/

/-- The input and the router's weights, whole at every point. -/
def xIn (c : Dev nD) : S2048x768.Idx → Elt F .f32 := iblk m c 0 (tOf 0)
def chIn (c : Dev nD) : S64x768.Idx → Elt F .f32 := iblk m c 1 (tOf 0)
/-- The two weight blocks of each expert. -/
def w1In (c : Dev nD) (e : Fin 64) : S1x1024x768.Idx → Elt F .f32 := iblk m c 2 (tOf e)
def w2In (c : Dev nD) (e : Fin 64) : S1x768x1024.Idx → Elt F .f32 := iblk m c 3 (tOf e)

/-- The tokens' block is the same at every point. -/
theorem iblk0 (c : Dev nD) (t : Fin cfg0.N) : iblk m c 0 t = xIn m c := rfl
/-- The router's block is the same at every point. -/
theorem iblk1 (c : Dev nD) (t : Fin cfg0.N) : iblk m c 1 t = chIn m c := rfl
/-- The first weights' block is the point's expert's. -/
theorem iblk2 (c : Dev nD) (t : Fin cfg0.N) : iblk m c 2 t = w1In m c (eOf (grid0.coords t)) := by unfold w1In; rw [tOf_eOf]
/-- The second weights' block is the point's expert's. -/
theorem iblk3 (c : Dev nD) (t : Fin cfg0.N) : iblk m c 3 t = w2In m c (eOf (grid0.coords t)) := by unfold w2In; rw [tOf_eOf]

/-! ## The proof data -/

/-- The scratch buffers and the generator's register before point `n`. -/
def Phi (c : Dev nD) (n : ℕ) : sProp 𝕄 :=
  iprop((∃ f6 : Bf (F := F) c mIdx, ∃ f7 : Bf (F := F) c mGate, ∃ f8 : Bf (F := F) c mCt, ∃ f9 : Bf (F := F) c mXb,
      ∃ f10 : Bf (F := F) c mXg, ∃ f11 : Bf (F := F) c mY,
      ⌜∀ o : S2048x768.Idx → Elt F .f32, Inv n (xIn m c) (chIn m c) (w1In m c) (w2In m c)
        ⟨o, mIdx.view.read (Elt F) f6, mGate.view.read (Elt F) f7, mCt.view.read (Elt F) f8, mXb.view.read (Elt F) f9,
          mXg.view.read (Elt F) f10, mY.view.read (Elt F) f11⟩⌝
      ∗ pt c mIdx f6 ∗ pt c mGate f7 ∗ pt c mCt f8 ∗ pt c mXb f9 ∗ pt c mXg f10 ∗ pt c mY f11)
    ∗ (∃ r, prngReg c r))

/-- What the body leaves in each window's buffer: an operand its block, the result the kernel's result. -/
def afters (c : Dev nD) : (w : Fin cfg0.W) → (t : Fin cfg0.N) → ((cfg0.win w).block).Idx → Elt F (cfg0.win w).elt
  | 0 => fun t => iblk m c 0 t
  | 1 => fun t => iblk m c 1 t
  | 2 => fun t => iblk m c 2 t
  | 3 => fun t => iblk m c 3 t
  | 4 => fun _ => outOf (xIn m c) (chIn m c) (w1In m c) (w2In m c)
  | ⟨_ + 5, h⟩ => absurd h (Nat.not_lt.2 (Nat.le_add_left _ _))

/-- The proof data on core `c`. -/
def dats (_ : Fin 1) (c : Dev nD) : Dat τ (Elt F) Unit ℕ (UR sig nD τ) ℕ cfg0 c where
  A w := V m c (Pipeline.arrRef spec0 w)
  after w t := afters m c w t
  Φ t := Phi m c t.val
  q _ := fullShare
  owed _ := 0

theorem A_eq (c : Dev nD) (w : Fin cfg0.W) : (dats m 0 c).A w = V m c (Pipeline.arrRef spec0 w) := by dsimp only [dats]

/-- A whole memref's buffer held with contents that read as `X`. -/
theorem owns_pt (c : Dev nD) {sp : Space} {S : Shape} {e : EltTy} (M : Memref sig .tc sp S e) (w : M.IsWhole) (X : S.Idx → Elt F e) :
    (owns (c : Thread nD τ) M fullShare X : sProp 𝕄) = iprop(∃ f : Bf (F := F) c M, ⌜M.view.read (Elt F) f = X⌝ ∗ pt c M f) := by
  unfold owns
  rw [w.set_eq_univ]

/-- The result's window at a point where it is not stored. -/
theorem idle4 (t : Fin cfg0.N) (h : ¬ t.val = 63) : cfg0.idle 4 (cfg0.grid.coords t) = true := by
  show (!(k0_cond3 (grid0.coords t) == 1#1)) = true
  rw [Bool.not_eq_true', beq_eq_false_iff_ne]
  intro h3
  exact h ((coord_val t).symm.trans ((cond3_iff _).1 h3))
theorem live4 (t : Fin cfg0.N) (h : t.val = 63) : cfg0.idle 4 (cfg0.grid.coords t) = false := by
  show (!(k0_cond3 (grid0.coords t) == 1#1)) = false
  rw [Bool.not_eq_false', beq_iff_eq]
  exact (cond3_iff _).2 ((coord_val t).trans h)
theorem noflush4 (t : Fin cfg0.N) (h : ¬ t.val = 63) : (cfg0.win 4).flush t = false := by
  rw [Bool.eq_false_iff]
  intro hf
  have := (flush0_4 t).1 hf
  have : t.val < 64 := t.isLt
  omega

/-- The result's buffer is untouched before the last point. -/
theorem step_out (e : Fin 64) (h : ¬ e.val = 63) (x : Vec F S2048x768 .f32) (ch : Vec F S64x768 .f32)
    (w1 : S1x1024x768.Idx → Elt F .f32) (w2 : S1x768x1024.Idx → Elt F .f32) (s : St F) : (step e x ch w1 w2 s).out = s.out := by
  unfold step step4 step3 step2 step1
  rw [if_neg h]
  split <;> split <;> rfl

/-- What the body leaves in the result's buffer at point `t`, as the pipeline asks for it. -/
def post4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ post4 m c t)

theorem before0 (c : Dev nD) (t : Fin cfg0.N) (d) : (dats m 0 c).before 0 t d = xIn m c :=
  (before0_0_of m (dats m 0 c) (A_eq m c 0) (fun _ => rfl) t d).trans (iblk0 m c t)
theorem before1 (c : Dev nD) (t : Fin cfg0.N) (d) : (dats m 0 c).before 1 t d = chIn m c :=
  (before0_1_of m (dats m 0 c) (A_eq m c 1) (fun _ => rfl) t d).trans (iblk1 m c t)
theorem before2 (c : Dev nD) (t : Fin cfg0.N) (d) : (dats m 0 c).before 2 t d = w1In m c (eOf (grid0.coords t)) :=
  (before0_2_of m (dats m 0 c) (A_eq m c 2) (fun _ => rfl) t d).trans (iblk2 m c t)
theorem before3 (c : Dev nD) (t : Fin cfg0.N) (d) : (dats m 0 c).before 3 t d = w2In m c (eOf (grid0.coords t)) :=
  (before0_3_of m (dats m 0 c) (A_eq m c 3) (fun _ => rfl) t d).trans (iblk3 m c t)

/-- The result's buffer after the point's step. -/
theorem post4_of (c : Dev nD) (t : Fin cfg0.N) (d) (f5 g5 : Bf (F := F) c (st0_4 t))
    (h5 : (st0_4 t).view.read (Elt F) f5 = (dats m 0 c).before 4 t d)
    (hne : ¬ t.val = 63 → (st0_4 t).view.read (Elt F) g5 = (st0_4 t).view.read (Elt F) f5)
    (heq : t.val = 63 → (st0_4 t).view.read (Elt F) g5 = outOf (xIn m c) (chIn m c) (w1In m c) (w2In m c)) :
    (pt c (st0_4 t) g5 : sProp 𝕄) ⊢ post4 m c t := by
  have w : (st0_4 t).IsWhole := hstage0_4 ((cfg0.slots t 4).cast nbuf0_4)
  unfold post4
  by_cases h : t.val = 63
  · rw [live4 t h]
    show _ ⊢ owns (c : Thread nD τ) (st0_4 t) fullShare ((dats m 0 c).after 4 t)
    rw [owns_pt c (st0_4 t) w]
    iintro H
    iexists _
    isplitr
    rotate_left
    · iexact H
    ipureintro
    exact heq h
  · rw [idle4 t h, noflush4 t h]
    show _ ⊢ iprop(∃ d, owns (c : Thread nD τ) (st0_4 t) fullShare ((dats m 0 c).before 4 t d))
    iintro H
    iexists d
    rw [owns_pt c (st0_4 t) w]
    iexists _
    isplitr
    rotate_left
    · iexact H
    ipureintro
    exact (hne h).trans h5

/-- The body at point `t`. -/
theorem sound_body (c : Dev nD) (t : Fin cfg0.N) :
    bodyPre m c t ⊢ wp frame (wpE (defs₀ (F := F)) Variants.none c none) Set.univ (bodyAt0 t) (fun _ => bodyPost m c t) := by
  have k0 : (st0_0 t).IsWhole := hstage0_0 ((cfg0.slots t 0).cast nbuf0_0)
  have k1 : (st0_1 t).IsWhole := hstage0_1 ((cfg0.slots t 1).cast nbuf0_1)
  have k2 : (st0_2 t).IsWhole := hstage0_2 ((cfg0.slots t 2).cast nbuf0_2)
  have k3 : (st0_3 t).IsWhole := hstage0_3 ((cfg0.slots t 3).cast nbuf0_3)
  have k4 : (st0_4 t).IsWhole := hstage0_4 ((cfg0.slots t 4).cast nbuf0_4)
  unfold bodyPre bodyPost bodyAt0
  simp only [before0, before1, before2, before3]
  rw [show (dats m 0 c).owesAt () t.succ = (dats m 0 c).owesAt () t.castSucc from rfl,
    show (dats m 0 c).Φ t.succ = Phi m c (t.val + 1) from rfl,
    show (dats m 0 c).Φ t.castSucc = Phi m c t.val from rfl,
    show (dats m 0 c).after 0 t = xIn m c from iblk0 m c t, show (dats m 0 c).after 1 t = chIn m c from iblk1 m c t,
    show (dats m 0 c).after 2 t = w1In m c (eOf (grid0.coords t)) from iblk2 m c t,
    show (dats m 0 c).after 3 t = w2In m c (eOf (grid0.coords t)) from iblk3 m c t]
  simp only [owns_pt c (st0_0 t) k0, owns_pt c (st0_1 t) k1, owns_pt c (st0_2 t) k2, owns_pt c (st0_3 t) k3, owns_pt c (st0_4 t) k4]
  unfold Phi
  iintro ⟨⟨⟨%f6, %f7, %f8, %f9, %f10, %f11, %hinv, H6, H7, H8, H9, H10, H11⟩, Hg⟩, HO, ⟨%d0, %f1, %e1, H1⟩, ⟨%d1, %f2, %e2, H2⟩,
    ⟨%d2, %f3, %e3, H3⟩, ⟨%d3, %f4, %e4, H4⟩, ⟨%d4, %f5, %e5, H5⟩⟩
  iapply (body_runs c (grid0.coords t) (st0_0 t) k0 (st0_1 t) k1 (st0_2 t) k2 (st0_3 t) k3 (st0_4 t) k4 f1 f2 f3 f4 f5 f6 f7 f8 f9 f10 f11 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨%g5, %g6, %g7, %g8, %g9, %g10, %g11, %hstep, H1, H2, H3, H4, H5, H6, H7, H8, H9, H10, H11⟩
  rw [e1, e2, e3, e4] at hstep
  have hi := (hinv ((st0_4 t).view.read (Elt F) f5)).step (eOf (grid0.coords t)) (coord_val t)
  have hs : step (eOf (grid0.coords t)) (xIn m c) (chIn m c) (w1In m c (eOf (grid0.coords t))) (w2In m c (eOf (grid0.coords t)))
      ⟨(st0_4 t).view.read (Elt F) f5, mIdx.view.read (Elt F) f6, mGate.view.read (Elt F) f7, mCt.view.read (Elt F) f8,
        mXb.view.read (Elt F) f9, mXg.view.read (Elt F) f10, mY.view.read (Elt F) f11⟩
      = stOf c (st0_4 t) g5 g6 g7 g8 g9 g10 g11 := hstep.symm
  rw [hs] at hi
  isplitl [H6 H7 H8 H9 H10 H11 Hg]
  · isplitl [H6 H7 H8 H9 H10 H11]
    · iexists g6, g7, g8, g9, g10, g11
      isplitr
      · ipureintro
        exact fun o hn => hi hn
      isplitl [H6]; · iexact H6
      isplitl [H7]; · iexact H7
      isplitl [H8]; · iexact H8
      isplitl [H9]; · iexact H9
      isplitl [H10]; · iexact H10
      iexact H11
    · iexact Hg
  isplitl [HO]; · iexact HO
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iapply (post4_of m c t d4 f5 g5 e5
    (fun h => (congrArg St.out hs).symm.trans (step_out _ (fun h' => h ((coord_val t).symm.trans h')) _ _ _ _ _))
    (fun h => (congrArg St.out hs).symm.trans (Inv.out _ ((coord_val t).trans h) (h ▸ hinv _))))
  iexact H5

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem phi_in (c : Dev nD) : (Pipeline.ΦA spec0 c : sProp 𝕄) ⊢ Phi m c 0 := by
  unfold Pipeline.ΦA Phi
  rw [scopedRest0_eq]
  iintro ⟨⟨⟨%f6, H6⟩, ⟨%f7, H7⟩, ⟨%f8, H8⟩, ⟨%f9, H9⟩, ⟨%f10, H10⟩, ⟨%f11, H11⟩⟩, Hg⟩
  isplitr [Hg]
  · iexists f6, f7, f8, f9, f10, f11
    isplitr
    · ipureintro
      exact fun o h => absurd h (Nat.lt_irrefl 0)
    isplitl [H6]; · iexact H6
    isplitl [H7]; · iexact H7
    isplitl [H8]; · iexact H8
    isplitl [H9]; · iexact H9
    isplitl [H10]; · iexact H10
    iexact H11
  · iexact Hg

theorem phi_out (c : Dev nD) (n : ℕ) : (Phi m c n : sProp 𝕄) ⊢ Pipeline.ΦA spec0 c := by
  unfold Pipeline.ΦA Phi
  rw [scopedRest0_eq]
  iintro ⟨⟨%f6, %f7, %f8, %f9, %f10, %f11, -, H6, H7, H8, H9, H10, H11⟩, Hg⟩
  isplitr [Hg]
  · isplitl [H6]; · iexists f6; iexact H6
    isplitl [H7]; · iexists f7; iexact H7
    isplitl [H8]; · iexists f8; iexact H8
    isplitl [H9]; · iexists f9; iexact H9
    isplitl [H10]; · iexists f10; iexact H10
    iexists f11; iexact H11
  · iexact Hg

set_option backward.isDefEq.respectTransparency.types false in
/-- From any memory with zero counters every execution of the kernel ends, and every final state has every array at what the
    pipeline's proof data say, every other buffer at what the host lines leave, and every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => phi_in m c) (hout := fun c => phi_out m c _)
    (hQ' := fun _ h => h)

/-- Every argument ends as it began. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩

/-- The kernel's run: every argument ends as it began and every counter at zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept m h.1 c, h.2⟩) (run_main m ρ)

end Cert.KernelIdeal.Hand

end
-- ==== Proof.Same.lean ====
/-
  The kernel's program and its idealization's are the same text: the same @main, the same body, the same table. A run of the one, at
  any value instance, is a run of the other.
-/
module
public import proofs.«01_k».proof.Defs
public import proofs.«01_k».proof.Proof.Run
public import proofs.«01_k».proof.Proof.Gen.Kernel.Frame
@[expose] public section
noncomputable section
namespace Cert.Kernel.Hand
open Idealize.ShloMosaic Idealize.ShloMosaic.TcCoe Idealize.SL.Sem
open Cert.Kernel Cert.Kernel.Gen
variable {F : FTy → Type} [FloatOps F]
/-- The kernel's body is its idealization's. -/
theorem body_eq (i) (a1 h1 a2 h2 a3 h3 a4 h4 a5 h5 a6 h6 a7 h7 a8 h8 a9 h9 a10 h10 a11 h11) : Cert.Kernel.cc0__moe_body (F := F) i a1 h1 a2 h2 a3 h3 a4 h4 a5 h5 a6 h6 a7 h7 a8 h8 a9 h9 a10 h10 a11 h11
   = Cert.KernelIdeal.cc0__moe_body (F := F) i a1 h1 a2 h2 a3 h3 a4 h4 a5 h5 a6 h6 a7 h7 a8 h8 a9 h9 a10 h10 a11 h11 := rfl
/-- The body tables are the same. -/
theorem defs0_eq : Cert.Kernel.defs₀ (F := F) = Cert.KernelIdeal.defs₀ := by
  unfold Cert.Kernel.defs₀ Cert.KernelIdeal.defs₀
  refine congrArg Defs.onTc ?_
  funext l x
  match l, x with
  | 0, (t, s) => exact body_eq _ _ _ _ _ _ _ _ _ _ _ _ _ _ _ _ _ _ _ _ _ _ _
/-- The programs' tables are the same. -/
theorem defs_eq : Cert.Kernel.defs (F := F) = Cert.KernelIdeal.defs := by
  unfold Cert.Kernel.defs Cert.KernelIdeal.defs
  rw [defs0_eq]
  rfl
/-- The kernel itself, run at any value instance: every argument ends as it began and every counter at zero. -/
theorem quiet (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact KernelIdeal.Hand.quiet m g

end Cert.Kernel.Hand
end
-- ==== Proof.Result.lean ====
/-
  What the kernel's result buffer holds after the run, and the windows' blocks, in terms of the launch memory.
-/
module

public import proofs.«01_k».proof.Proof.Run
public import Idealize.ShloMosaic.Lib.Pipeline.Value
public import Idealize.ShloMosaic.Lib.Pipeline.ValueKit

@[expose] public section

noncomputable section

namespace Cert.KernelIdeal.Hand

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- The result's array after the run: what the one write-back, at the last point, leaves. -/
theorem final_result (c : Dev nD) : (dats m 0 c).arrAt 4 cfg0.N = outOf (xIn m c) (chIn m c) (w1In m c) (w2In m c) := by
  refine (dats m 0 c).arrAt_eq_of_after_last 4 (tOf 63) (by decide +kernel) _ fun j => ?_
  rfl

/-- The kernel's result after the run: `outOf`, with the leading axis of length 1 restored. -/
theorem result_eq {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc main_v0)
      = broadcastInDim S1x2048x768 ![1, 2] bcast_S2048x768_S1x2048x768_1_2 (outOf (xIn m c) (chIn m c) (w1In m c) (w2In m c)) := by
  refine ((h c).2 main_v0 (Pipeline.mem_restRefs_of main_v0 (by decide) (by decide))).trans ?_
  rw [← final_result]
  unfold Pipeline.afterTail₀
  simp only [hostOps1, List.flatten_cons, List.flatten_nil, List.append_nil, StableHlo.after, StableHlo.TRef.unary,
    StableHlo.TRef.toBuf, StableHlo.TRef.ofBuf, cast_eq]
  after_results_simp
  exact congrArg (broadcastInDim S1x2048x768 ![1, 2] bcast_S2048x768_S1x2048x768_1_2)
    (Pipeline.withArrays_arr (cfgs 0).spec launch0.win.arr_inj c (V0 m c) _ 4)

/-- The block indices of the windows over the grid: the tokens' and the router's are constant, an expert's slab follows the point. -/
theorem idx1 (e : Fin 64) : win0_1.index (tOf e) 0 = 0 ∧ win0_1.index (tOf e) 1 = 0 :=
  (by decide +kernel : ∀ e : Fin 64, win0_1.index (tOf e) 0 = 0 ∧ win0_1.index (tOf e) 1 = 0) e
theorem idx2 (e : Fin 64) : win0_2.index (tOf e) 0 = e.val ∧ win0_2.index (tOf e) 1 = 0 ∧ win0_2.index (tOf e) 2 = 0 :=
  (by decide +kernel : ∀ e : Fin 64, win0_2.index (tOf e) 0 = e.val ∧ win0_2.index (tOf e) 1 = 0 ∧ win0_2.index (tOf e) 2 = 0) e
theorem idx3 (e : Fin 64) : win0_3.index (tOf e) 0 = e.val ∧ win0_3.index (tOf e) 1 = 0 ∧ win0_3.index (tOf e) 2 = 0 :=
  (by decide +kernel : ∀ e : Fin 64, win0_3.index (tOf e) 0 = e.val ∧ win0_3.index (tOf e) 1 = 0 ∧ win0_3.index (tOf e) 2 = 0) e
theorem idx0 (e : Fin 64) : win0_0.index (tOf e) 0 = 0 ∧ win0_0.index (tOf e) 1 = 0 :=
  (by decide +kernel : ∀ e : Fin 64, win0_0.index (tOf e) 0 = 0 ∧ win0_0.index (tOf e) 1 = 0) e

/-- The tokens as the pipeline finds them: the first argument reshaped. -/
theorem V_tokens (c : Dev nD) :
    V m c main_call0_v0 = shapeCast S2048x768 (m ((c : Thread nD τ).loc main_arg0)) shapeCasts_S1x2048x768_S2048x768 := by
  show StableHlo.after hostOps0 (fun b => m (c, b)) (Proc.tc.devRef main_call0_v0) = _
  simp only [hostOps0, StableHlo.TRef.reshape, StableHlo.TRef.toBuf, StableHlo.TRef.ofBuf, cast_eq]
  after_results_simp
  rfl

/-- The token block at an index. -/
theorem xIn_apply (c : Dev nD) (j : S2048x768.Idx) :
    xIn m c j = m ((c : Thread nD τ).loc main_arg0) (ValueIdx.ix3 0 (j 0) (j 1)) := by
  have e : ∀ W : S2048x768.Idx → Elt F .f32, ((cfg0.win 0).blk (tOf 0)).view.read (Elt F) W j = W j := fun W => by
    blk_ext [(idx0 0).1, (idx0 0).2]
  refine (e (V m c main_call0_v0)).trans ?_
  rw [V_tokens]
  refine (shapeCast_dropUnit_apply ![2048, 768] _ _ j).trans (congrArg _ (funext fun a => ?_))
  match a with
  | 0 => rfl
  | 1 => rfl
  | 2 => rfl

/-- The router's block is the second argument. -/
theorem chIn_apply (c : Dev nD) (j : S64x768.Idx) : chIn m c j = m ((c : Thread nD τ).loc main_arg1) j := by
  rw [← V_main_arg1 m c]
  unfold chIn
  blk_ext [iblk, (idx1 0).1, (idx1 0).2]

/-- Expert `e`'s first weight block is its slab of the third argument. -/
theorem w1In_apply (c : Dev nD) (e : Fin 64) (j : S1x1024x768.Idx) :
    w1In m c e j = m ((c : Thread nD τ).loc main_arg2) (ValueIdx.ix3 e (j 1) (j 2)) := by
  rw [← V_main_arg2 m c]
  unfold w1In
  blk_ext [iblk, (idx2 e).1, (idx2 e).2.1, (idx2 e).2.2]

/-- Expert `e`'s second weight block is its slab of the fourth argument. -/
theorem w2In_apply (c : Dev nD) (e : Fin 64) (j : S1x768x1024.Idx) :
    w2In m c e j = m ((c : Thread nD τ).loc main_arg3) (ValueIdx.ix3 e (j 1) (j 2)) := by
  rw [← V_main_arg3 m c]
  unfold w2In
  blk_ext [iblk, (idx3 e).1, (idx3 e).2.1, (idx3 e).2.2]

end Cert.KernelIdeal.Hand

end
-- ==== Proof.Order.lean ====
/-
  The order in which a stable descending sort lists the positions of a vector of extended reals, and the same list taken
  one position at a time: take the first greatest entry, put −1 in its place, repeat.
-/
module

public import Idealize.ShloMosaic.Lib.SortFacts
public import Idealize.ShloMosaic.PureOps.Reduce
public import Idealize.ShloMosaic.PureOps.Ideal.Laws

@[expose] public section

noncomputable section

namespace Cert.KernelIdeal.Hand

open Idealize.ShloMosaic

variable {n : ℕ} (p : Fin n → EReal)

/-- Position `k` sorts before position `k'`: its entry is greater. -/
def before : Fin n → Fin n → Bool := fun k k' => Ideal.cmp .ogt (p k) (p k') == 1#1

/-- Position `b` comes ahead of position `c`: its entry is greater, or the entries are equal and `b` is the smaller. -/
def Ahead (b c : Fin n) : Prop := p c < p b ∨ (p b = p c ∧ b < c)

/-- The position listed at place `k`. -/
def order : Fin n → Fin n := sortedFrom (before p)

/-- What is left after `r` rounds: −1 at the first `r` listed positions, the vector's own entry elsewhere. -/
def left (r : ℕ) : Fin n → EReal := open Classical in fun s => if ∃ i : Fin n, i.val < r ∧ order p i = s then -1 else p s

/-- Sorting before is having the greater entry. -/
theorem before_iff (a b : Fin n) : before p a b = true ↔ p b < p a := by
  unfold before Ideal.cmp
  by_cases h : p b < p a <;> simp [h]

/-- Coming ahead is transitive. -/
theorem Ahead.trans {a b c : Fin n} (h : Ahead p a b) (h' : Ahead p b c) : Ahead p a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- Inserting a position smaller than all those of a list in order leaves a list in order. -/
theorem pairwise_insert (a : Fin n) (l : List (Fin n)) (hl : l.Pairwise (Ahead p)) (ha : ∀ b ∈ l, a < b) :
    (insertBefore (before p) a l).Pairwise (Ahead p) := by
  induction l with
  | nil => exact List.pairwise_singleton _ _
  | cons b l ih =>
    rw [List.pairwise_cons] at hl
    unfold insertBefore
    split
    · next hb =>
      rw [before_iff] at hb
      refine List.pairwise_cons.2 ⟨fun c hc => ?_, ih hl.2 fun c hc => ha c (List.mem_cons_of_mem _ hc)⟩
      rcases List.mem_cons.1 ((perm_insertBefore _ a l).mem_iff.1 hc) with rfl | hc
      · exact .inl hb
      · exact hl.1 c hc
    · next hb =>
      rw [before_iff, not_lt] at hb
      have hab : Ahead p a b := by
        rcases hb.lt_or_eq with h | h
        · exact .inl h
        · exact .inr ⟨h.symm, ha b List.mem_cons_self⟩
      refine List.pairwise_cons.2 ⟨fun c hc => ?_, List.pairwise_cons.2 hl⟩
      rcases List.mem_cons.1 hc with rfl | hc
      · exact hab
      · exact hab.trans p (hl.1 c hc)

/-- The stable sort of an increasing list of positions lists them in order. -/
theorem pairwise_sort (l : List (Fin n)) (hl : l.Pairwise (· < ·)) : (stableSort (before p) l).Pairwise (Ahead p) := by
  induction l with
  | nil => exact List.Pairwise.nil
  | cons a l ih =>
    rw [List.pairwise_cons] at hl
    unfold stableSort
    exact pairwise_insert p a _ (ih hl.2) fun b hb => hl.1 b ((perm_stableSort _ l).mem_iff.1 hb)

/-- Places in increasing order hold positions each ahead of the next. -/
theorem order_ahead {i j : Fin n} (hij : i < j) : Ahead p (order p i) (order p j) := by
  have h := List.pairwise_iff_get.mp (pairwise_sort p (List.finRange n) (List.pairwise_lt_finRange n))
  exact h (i.cast (length_sortPositions n (before p)).symm) (j.cast (length_sortPositions n (before p)).symm) hij

/-- No position is listed twice. -/
theorem order_injective : Function.Injective (order p) := sortedFrom_injective _

/-- Nothing is taken before the first round. -/
theorem left_zero : left p 0 = p := by
  funext s; simp [left]

/-- A round puts −1 at the next listed position. -/
theorem left_succ (r : Fin n) : left p (r.val + 1) = fun s => if s = order p r then -1 else left p r.val s := by
  funext s
  unfold left
  by_cases h : s = order p r
  · rw [if_pos h, if_pos ⟨r, Nat.lt_succ_self _, h.symm⟩]
  · rw [if_neg h]
    refine if_congr ⟨fun ⟨i, hi, he⟩ => ⟨i, ?_, he⟩, fun ⟨i, hi, he⟩ => ⟨i, Nat.lt_succ_of_lt hi, he⟩⟩ rfl rfl
    refine lt_of_le_of_ne (Nat.lt_succ_iff.1 hi) fun e => h ?_
    rw [← he, Fin.ext e]

/-- The next listed position still has its own entry. -/
theorem left_order (r : Fin n) : left p r.val (order p r) = p (order p r) := by
  unfold left
  rw [if_neg]
  rintro ⟨i, hi, he⟩
  exact absurd (congrArg Fin.val (order_injective p he)) (Nat.ne_of_lt hi)

/-- Of what is left, every entry is below the next listed position's, or equal to it at a position not smaller. -/
theorem left_cases (hp : ∀ s, 0 ≤ p s) (r : Fin n) (s : Fin n) :
    left p r.val s < p (order p r) ∨ (left p r.val s = p (order p r) ∧ order p r ≤ s) := by
  obtain ⟨i, rfl⟩ := sortedFrom_surjective (before p) s
  change left p r.val (order p i) < _ ∨ (left p r.val (order p i) = _ ∧ _ ≤ order p i)
  by_cases hi : i.val < r.val
  · left
    rw [left, if_pos ⟨i, hi, rfl⟩]
    exact lt_of_lt_of_le (by rw [EReal.neg_lt_zero]; exact zero_lt_one) (hp _)
  · have hl : left p r.val (order p i) = p (order p i) := by
      rw [left, if_neg]
      rintro ⟨j, hj, he⟩
      exact hi (order_injective p he ▸ hj)
    rw [hl]
    rcases (not_lt.1 hi).lt_or_eq with h | h
    · rcases order_ahead p (Fin.lt_def.2 h) with h | ⟨h, h'⟩
      · exact .inl h
      · exact .inr ⟨h.symm, h'.le⟩
    · rw [Fin.ext h]; exact .inr ⟨rfl, le_rfl⟩

/-- The greatest entry left is the next listed position's. -/
theorem fold_max_left (hp : ∀ s, 0 ≤ p s) (r : Fin n) :
    (Finset.univ : Finset (Fin n)).fold max ⊥ (left p r.val) = p (order p r) := by
  refine le_antisymm (Finset.fold_max_le _ |>.2 ⟨bot_le, fun s _ => ?_⟩) ?_
  · rcases left_cases p hp r s with h | h
    · exact h.le
    · exact h.1.le
  · exact (Finset.le_fold_max _).2 (.inr ⟨order p r, Finset.mem_univ _, (left_order p r).ge⟩)

/-- A fold of the signed minimum, as integers. -/
theorem toInt_fold_minsi (b : BitVec 32) (f : Fin n → BitVec 32) :
    ((Finset.univ : Finset (Fin n)).fold IKind.minsi.op b f).toInt
      = (Finset.univ : Finset (Fin n)).fold min b.toInt fun s => (f s).toInt := by
  refine (Finset.fold_hom (m := BitVec.toInt) (op' := min) fun x y => ?_).symm
  simp only [IKind.op, IntOp.minsi]
  split
  · next h => rw [BitVec.slt_iff_toInt_lt] at h; rw [min_eq_left h.le]
  · next h => rw [BitVec.slt_iff_toInt_lt, not_lt] at h; rw [min_eq_right h]

/-- The least position at which the greatest entry is left is the next listed one. -/
theorem fold_minsi_left (hn : n ≤ 2048) (hp : ∀ s, 0 ≤ p s) (r : Fin n) :
    (Finset.univ : Finset (Fin n)).fold IKind.minsi.op 2147483647#32
        (fun s => if left p r.val s = p (order p r) then BitVec.ofNat 32 s.val else 2048#32) = BitVec.ofNat 32 (order p r).val := by
  have hv : ∀ k : ℕ, k ≤ 2048 → (BitVec.ofNat 32 k).toInt = k := fun k hk => by
    have e : (BitVec.ofNat 32 k).toNat = k := by rw [BitVec.toNat_ofNat]; omega
    rw [BitVec.toInt_eq_toNat_of_lt (by rw [e]; omega), e]
  refine BitVec.eq_of_toInt_eq ?_
  have hr := (order p r).isLt
  rw [toInt_fold_minsi, hv (order p r).val (by omega)]
  refine le_antisymm ?_ ((Finset.le_fold_min _).2 ⟨?_, fun s _ => ?_⟩)
  · refine (Finset.fold_min_le _).2 (.inr ⟨order p r, Finset.mem_univ _, ?_⟩)
    rw [if_pos (left_order p r), hv (order p r).val (by omega)]
  · rw [show (2147483647#32).toInt = 2147483647 from by decide]; omega
  · split
    · next h =>
      have hs := s.isLt
      rw [hv s.val (by omega)]
      rcases left_cases p hp r s with h' | h'
      · exact absurd h h'.ne
      · exact_mod_cast h'.2
    · rw [show (2048#32).toInt = 2048 from by decide]; omega

end Cert.KernelIdeal.Hand

end
-- ==== Proof.Layer.lean ====
/-
  The layer's mathematics over the extended reals: the router's probabilities, each expert's chosen tokens, the experts'
  feed-forward networks, and the weighted sum of what they return.
-/
module

public import proofs.«01_k».proof.Proof.Order

@[expose] public section

noncomputable section

namespace Cert.KernelIdeal.Hand

open Idealize.ShloMosaic

variable (X : Fin 2048 → Fin 768 → EReal) (C : Fin 64 → Fin 768 → EReal)
  (W1 : Fin 64 → Fin 1024 → Fin 768 → EReal) (W2 : Fin 64 → Fin 768 → Fin 1024 → EReal)

/-- Expert `e`'s score of token `s`. -/
def logit (e : Fin 64) (s : Fin 2048) : EReal := ∑ d : Fin 768, C e d * X s d
/-- The greatest score of token `s`. -/
def peak (s : Fin 2048) : EReal := (Finset.univ : Finset (Fin 64)).fold max ⊥ fun e => logit X C e s
/-- The unnormalised weight. -/
def weight (e : Fin 64) (s : Fin 2048) : EReal := Ideal.exp (logit X C e s - peak X C s)
/-- The probability that token `s` belongs to expert `e`: the softmax over the experts. -/
def prob (e : Fin 64) (s : Fin 2048) : EReal := Ideal.div (weight X C e s) (∑ e' : Fin 64, weight X C e' s)

/-- The token that expert `e` takes at place `k`: its 32 most probable, greatest first. -/
def pick (e : Fin 64) (k : Fin 32) : Fin 2048 := order (prob X C e) (k.castLE (by norm_num))
/-- The gate: the probability of the token taken. -/
def gate (e : Fin 64) (k : Fin 32) : EReal := prob X C e (pick X C e k)
/-- One where token `s` is the one taken, zero elsewhere. -/
def hot (e : Fin 64) (k : Fin 32) (s : Fin 2048) : EReal := if pick X C e k = s then 1 else 0

/-- The taken tokens' rows. -/
def rows (e : Fin 64) (k : Fin 32) (d : Fin 768) : EReal := ∑ s : Fin 2048, hot X C e k s * X s d
/-- The first product of the feed-forward network. -/
def hidden (e : Fin 64) (k : Fin 32) (f : Fin 1024) : EReal := ∑ d : Fin 768, rows X C e k d * W1 e f d
/-- `h` times the logistic function of `h`. -/
def act (h : EReal) : EReal := Ideal.div h (1 + Ideal.exp (-h))
/-- The feed-forward network's result. -/
def ffn (e : Fin 64) (k : Fin 32) (d : Fin 768) : EReal := ∑ f : Fin 1024, act (hidden X C W1 e k f) * W2 e d f
/-- The layer's result: each expert's gated rows put back at their tokens and summed. -/
def layer (s : Fin 2048) (d : Fin 768) : EReal :=
  ∑ e : Fin 64, ∑ k : Fin 32, hot X C e k s * (ffn X C W1 W2 e k d * gate X C e k)

/-- An expert takes no token twice. -/
theorem pick_injective (e : Fin 64) : Function.Injective (pick X C e) := fun k k' h => by
  have := congrArg Fin.val (order_injective _ h)
  exact Fin.ext this

/-- Weighing an expert's scattered rows by its scattered gates is scattering its gated rows: at most one of its places holds
    token `s`. -/
theorem scatter_mul (e : Fin 64) (s : Fin 2048) (y g : Fin 32 → EReal) :
    (∑ k : Fin 32, hot X C e k s * y k) * (∑ k : Fin 32, hot X C e k s * g k) = ∑ k : Fin 32, hot X C e k s * (y k * g k) := by
  by_cases h : ∃ k, pick X C e k = s
  · obtain ⟨k, rfl⟩ := h
    have hk : ∀ z : Fin 32 → EReal, ∑ k' : Fin 32, hot X C e k' (pick X C e k) * z k' = z k := fun z => by
      rw [Finset.sum_eq_single k]
      · simp [hot]
      · intro b _ hb
        rw [hot, if_neg fun he => hb (pick_injective X C e he), zero_mul]
      · exact fun hk => absurd (Finset.mem_univ k) hk
    rw [hk, hk, hk]
  · have hk : ∀ z : Fin 32 → EReal, ∑ k : Fin 32, hot X C e k s * z k = 0 := fun z =>
      Finset.sum_eq_zero fun k _ => by rw [hot, if_neg fun he => h ⟨k, he⟩, zero_mul]
    rw [hk, hk, hk, zero_mul]

/-- The exponential is at least zero. -/
theorem exp_nonneg (x : EReal) : 0 ≤ Ideal.exp x := by
  induction x with
  | bot => exact le_rfl
  | top => exact le_top
  | coe r => exact EReal.coe_nonneg.2 (Real.exp_pos r).le

/-- One plus an exponential is not zero. -/
theorem one_add_exp_ne_zero (x : EReal) : 1 + Ideal.exp x ≠ 0 :=
  ((zero_lt_one' EReal).trans_le (le_add_of_nonneg_right (exp_nonneg x))).ne'

/-- A finite sum of extended reals that are numbers is a number. -/
theorem sum_real {n : ℕ} (f : Fin n → EReal) (h : ∀ i, ∃ r : ℝ, f i = r) : ∃ r : ℝ, ∑ i, f i = r := by
  choose g hg using h
  refine ⟨∑ i, g i, ?_⟩
  rw [Finset.sum_congr rfl fun i _ => hg i]
  exact (map_sum (⟨⟨Real.toEReal, EReal.coe_zero⟩, EReal.coe_add⟩ : ℝ →+ EReal) g Finset.univ).symm

/-- Where the tokens and the router's weights are numbers, every probability is at least zero. -/
theorem prob_nonneg (hX : ∀ s d, ∃ r : ℝ, X s d = r) (hC : ∀ e d, ∃ r : ℝ, C e d = r) (e : Fin 64) (s : Fin 2048) :
    0 ≤ prob X C e s := by
  have hl : ∀ e, ∃ r : ℝ, logit X C e s = r := fun e => sum_real _ fun d => by
    obtain ⟨a, ha⟩ := hC e d
    obtain ⟨b, hb⟩ := hX s d
    exact ⟨a * b, by rw [ha, hb, EReal.coe_mul]⟩
  choose l hl using hl
  obtain ⟨p, hp⟩ : ∃ r : ℝ, peak X C s = r := by
    have h0 : peak X C s ≠ ⊥ := fun h => by
      have := (Finset.le_fold_max (f := fun e => logit X C e s) (b := ⊥) (s := Finset.univ) (logit X C 0 s)).2
        (.inr ⟨0, Finset.mem_univ _, le_rfl⟩)
      rw [show Finset.fold max ⊥ (fun e => logit X C e s) Finset.univ = ⊥ from h, hl] at this
      exact absurd (le_bot_iff.1 this) (EReal.coe_ne_bot _)
    have h1 : peak X C s ≠ ⊤ := fun h => by
      have := (Finset.lt_fold_max (f := fun e => logit X C e s) (b := ⊥) (s := Finset.univ) ((∑ e, |l e| : ℝ) : EReal)).1
        (by rw [show Finset.fold max ⊥ (fun e => logit X C e s) Finset.univ = ⊤ from h]; exact EReal.coe_lt_top _)
      rcases this with this | ⟨e, _, he⟩
      · exact absurd this (by simp)
      · rw [hl, EReal.coe_lt_coe_iff] at he
        exact absurd he (not_lt.2 ((le_abs_self _).trans (Finset.single_le_sum (f := fun e => |l e|)
          (fun i _ => abs_nonneg _) (Finset.mem_univ e))))
    exact ⟨_, (EReal.coe_toReal h1 h0).symm⟩
  have hw : ∀ e, weight X C e s = (Real.exp (l e - p) : ℝ) := fun e => by
    rw [weight, hl, hp, ← EReal.coe_sub, Ideal.exp_coe]
  have hs : ∑ e, weight X C e s = ((∑ e, Real.exp (l e - p) : ℝ) : EReal) := by
    rw [Finset.sum_congr rfl fun e _ => hw e]
    exact (map_sum (⟨⟨Real.toEReal, EReal.coe_zero⟩, EReal.coe_add⟩ : ℝ →+ EReal) _ Finset.univ).symm
  have hpos : 0 < ∑ e : Fin 64, Real.exp (l e - p) := Finset.sum_pos (fun _ _ => Real.exp_pos _) Finset.univ_nonempty
  rw [prob, hs, hw, Ideal.div, if_neg (by exact_mod_cast hpos.ne'), ← EReal.coe_inv, ← EReal.coe_mul]
  exact EReal.coe_nonneg.2 (mul_nonneg (Real.exp_pos _).le (inv_nonneg.2 hpos.le))

end Cert.KernelIdeal.Hand

end
-- ==== Proof.Probs.lean ====
/-
  The kernel's matrix products read at an entry, and the probabilities it computes.
-/
module

public import proofs.«01_k».proof.Proof.Spec
public import proofs.«01_k».proof.Proof.Layer
public import Idealize.ShloMosaic.Lib.MatmulPlain
public import Idealize.ShloMosaic.Lib.ValueIdx
public import Idealize.ShloMosaic.Lib.Pipeline.Value

@[expose] public section

noncomputable section

namespace Cert.KernelIdeal.Hand

open Cert.KernelIdeal Cert.KernelIdeal.Gen
open Idealize.ShloMosaic Idealize.ShloMosaic.ValueIdx

/-- The zero accumulator, read anywhere. -/
theorem zero_acc (s : Shape) (j : s.Idx) : constant (F := Ideal) s .f32 0x00000000#32 j = 0 := Ideal.ofBits_zero_f32

/-- The router's product. -/
theorem router_apply (a : FVec Ideal S64x768 .f32) (b : FVec Ideal S2048x768 .f32) (e : Fin 64) (s : Fin 2048) :
    matmul dot_S64x768_S2048x768_S64x2048_1_1_0_0_n_n none a b (constant S64x2048 .f32 0x00000000#32) (ix2 e s)
      = ∑ d : Fin 768, a (ix2 e d) * b (ix2 s d) :=
  (Ideal.matmul_transposedRhs_apply none a b _ e s).trans (by rw [zero_acc, zero_add])

/-- The first product of a feed-forward network. -/
theorem up_apply (a : FVec Ideal S32x768 .f32) (b : FVec Ideal S1024x768 .f32) (k : Fin 32) (f : Fin 1024) :
    matmul dot_S32x768_S1024x768_S32x1024_1_1_0_0_n_n none a b (constant S32x1024 .f32 0x00000000#32) (ix2 k f)
      = ∑ d : Fin 768, a (ix2 k d) * b (ix2 f d) :=
  (Ideal.matmul_transposedRhs_apply none a b _ k f).trans (by rw [zero_acc, zero_add])

/-- The second product of a feed-forward network. -/
theorem down_apply (a : FVec Ideal S32x1024 .f32) (b : FVec Ideal S768x1024 .f32) (k : Fin 32) (d : Fin 768) :
    matmul dot_S32x1024_S768x1024_S32x768_1_1_0_0_n_n none a b (constant S32x768 .f32 0x00000000#32) (ix2 k d)
      = ∑ f : Fin 1024, a (ix2 k f) * b (ix2 d f) :=
  (Ideal.matmul_transposedRhs_apply none a b _ k d).trans (by rw [zero_acc, zero_add])

/-- The gather's product. -/
theorem gather_apply (a : FVec Ideal S256x2048 .bf16) (b : FVec Ideal S2048x768 .bf16) (q : Fin 256) (d : Fin 768) :
    matmul dot_S256x2048_S2048x768_S256x768_1_0_0_1_n_n none a b (constant S256x768 .f32 0x00000000#32) (ix2 q d)
      = ∑ s : Fin 2048, a (ix2 q s) * b (ix2 s d) :=
  (Ideal.matmul_plain_apply none a b _ q d).trans (by rw [zero_acc, zero_add])

/-- The scatter's product: the left factor transposed. -/
theorem scatter_apply (a : FVec Ideal S2048x2048 .bf16) (b : FVec Ideal S2048x768 .bf16) (s : Fin 2048) (d : Fin 768) :
    matmul dot_S2048x2048_S2048x768_S2048x768_0_0_1_1_n_n none a b (constant S2048x768 .f32 0x00000000#32) (ix2 s d)
      = ∑ q : Fin 2048, a (ix2 q s) * b (ix2 q d) := by
  simp only [matmul]
  rw [Ideal.matmul_constant_zero_apply,
    ← Equiv.sum_comp (contrEquiv1 dot_S2048x2048_S2048x768_S2048x768_0_0_1_1_n_n 2048 rfl rfl).symm]
  refine Finset.sum_congr rfl fun q _ => ?_
  have hq := contrEquiv1_symm_val dot_S2048x2048_S2048x768_S2048x768_0_0_1_1_n_n 2048 rfl rfl q
  congr 1
  · refine congrArg a (funext fun x => Fin.ext ?_)
    match x with
    | ⟨0, _⟩ => exact hq
    | ⟨1, _⟩ => rfl
  · refine congrArg b (funext fun x => Fin.ext ?_)
    match x with
    | ⟨0, _⟩ => exact hq
    | ⟨1, _⟩ => rfl

/-- A row of 2048 repeated over the 64 experts. -/
theorem spread_apply {α : Type} (v : S2048.Idx → α) (e : Fin 64) (s : Fin 2048) :
    broadcastTo S64x2048 (shapeCast S1x2048 v shapeCasts_S2048_S1x2048) broadcasts_S1x2048_S64x2048 (ix2 e s) = v (ix1 s) := by
  refine (broadcastTo_apply (s := S1x2048) (t := S64x2048) _ _ (ix2 e s) (ix2 0 s) (fun a => match a with
    | ⟨0, _⟩ => rfl
    | ⟨1, _⟩ => rfl)).trans ?_
  exact (shapeCast_addUnit_apply ![2048] v shapeCasts_S2048_S1x2048 _).trans
    (congrArg v (funext fun a => match a with | ⟨0, _⟩ => rfl))

/-- The word that the maxima start from is minus infinity. -/
theorem neg_inf : FloatOps.ofBits (F := Ideal) .f32 0xFF800000#32 = ⊥ := by
  show Ideal.ofBits .f32 0xFF800000#32 = ⊥
  simp [Ideal.ofBits, Ideal.ieee]

/-- The position of a column's entry `e`. -/
theorem lift_col (h : S64x2048.Reduces [0] S2048) (s : Fin 2048) (e : Fin 64) : h.lift (ix1 s) e = ix2 e s :=
  funext fun a => Fin.ext (match a with | ⟨0, _⟩ => rfl | ⟨1, _⟩ => rfl)

/-- The position of a row's entry `s`. -/
theorem lift_row (h : S64x2048.Reduces [1] S64) (e : Fin 64) (s : Fin 2048) : h.lift (ix1 e) s = ix2 e s :=
  funext fun a => Fin.ext (match a with | ⟨0, _⟩ => rfl | ⟨1, _⟩ => rfl)

/-- A column's greatest entry. -/
theorem col_max (L : FVec Ideal S64x2048 .f32) (h : S64x2048.Reduces [0] S2048) (hφ : FKind.Formats .f32)
    (hacc : 0xFF800000#32 = FKind.maximumf.neutral .f32 hφ) (s : Fin 2048) :
    multiReduction .maximumf [0] S2048 L 0xFF800000#32 h hφ hacc (ix1 s)
      = (Finset.univ : Finset (Fin 64)).fold max ⊥ fun e => L (ix2 e s) := by
  refine (Ideal.multiReduction_maximumf_single L _ h hφ hacc (ix1 s)).trans ?_
  rw [neg_inf]
  exact congrArg (fun f => Finset.fold max ⊥ f Finset.univ) (funext fun e => congrArg L (lift_col h s e))

/-- A column's sum. -/
theorem col_sum (L : FVec Ideal S64x2048 .f32) (h : S64x2048.Reduces [0] S2048) (hφ : FKind.Formats .f32)
    (hacc : 0x00000000#32 = FKind.add.neutral .f32 hφ) (s : Fin 2048) :
    multiReduction .add [0] S2048 L 0x00000000#32 h hφ hacc (ix1 s) = ∑ e : Fin 64, L (ix2 e s) :=
  (Ideal.multiReduction_add_single L _ h hφ hacc (ix1 s)).trans
    (Finset.sum_congr rfl fun e _ => congrArg L (lift_col h s e))

/-- A row's greatest entry. -/
theorem row_max (L : FVec Ideal S64x2048 .f32) (h : S64x2048.Reduces [1] S64) (hφ : FKind.Formats .f32)
    (hacc : 0xFF800000#32 = FKind.maximumf.neutral .f32 hφ) (e : Fin 64) :
    multiReduction .maximumf [1] S64 L 0xFF800000#32 h hφ hacc (ix1 e)
      = (Finset.univ : Finset (Fin 2048)).fold max ⊥ fun s => L (ix2 e s) := by
  refine (Ideal.multiReduction_maximumf_single L _ h hφ hacc (ix1 e)).trans ?_
  rw [neg_inf]
  exact congrArg (fun f => Finset.fold max ⊥ f Finset.univ) (funext fun s => congrArg L (lift_row h e s))

/-- A row's least word. -/
theorem row_min (L : IVec S64x2048 32) (h : S64x2048.Reduces [1] S64) (hacc : 2147483647#32 = IKind.minsi.neutral) (e : Fin 64) :
    multiReductionI .minsi [1] S64 L 2147483647#32 h hacc (ix1 e)
      = (Finset.univ : Finset (Fin 2048)).fold IKind.minsi.op 2147483647#32 fun s => L (ix2 e s) := by
  refine (multiReductionI_eq_fold .minsi L _ h hacc (ix1 e)).trans ?_
  refine (h.fold_filter_drop_single _ _ L (ix1 e)).trans ?_
  exact congrArg (fun f => Finset.fold IKind.minsi.op 2147483647#32 f Finset.univ) (funext fun s => congrArg L (lift_row h e s))

/-- The kernel's probabilities. -/
theorem probs_apply (x : Vec Ideal S2048x768 .f32) (ch : Vec Ideal S64x768 .f32) (e : Fin 64) (s : Fin 2048) :
    k0_pay14 x ch (ix2 e s) = prob (fun s d => x (ix2 s d)) (fun e d => ch (ix2 e d)) e s := by
  have hx : k0_pay12 x = x := shapeCast_self x _
  unfold k0_pay14
  rw [hx]
  generalize hL : matmul (F := Ideal) dot_S64x768_S2048x768_S64x2048_1_1_0_0_n_n none ch x
    (constant S64x2048 .f32 0x00000000#32) = L
  have hl : ∀ e s, L (ix2 e s) = logit (fun s d => x (ix2 s d)) (fun e d => ch (ix2 e d)) e s := fun e s => by
    rw [← hL]; exact router_apply ch x e s
  have hw : ∀ e s, exp (subf L (broadcastTo S64x2048 (shapeCast S1x2048
      (multiReduction .maximumf [0] S2048 L 0xFF800000#32 reduces_S64x2048_S2048 (.inl rfl) rfl) shapeCasts_S2048_S1x2048)
      broadcasts_S1x2048_S64x2048)) (ix2 e s) = weight (fun s d => x (ix2 s d)) (fun e d => ch (ix2 e d)) e s := fun e s => by
    refine congrArg Ideal.exp (congrArg₂ (· - ·) (hl e s) ?_)
    refine (spread_apply _ e s).trans ((col_max L _ _ _ s).trans ?_)
    exact congrArg (fun f => Finset.fold max ⊥ f Finset.univ) (funext fun e => hl e s)
  refine congrArg₂ Ideal.div (hw e s) ?_
  exact (spread_apply _ e s).trans ((col_sum _ _ _ _ s).trans (Finset.sum_congr rfl fun e _ => hw e s))

end Cert.KernelIdeal.Hand

end
-- ==== Proof.Select.lean ====
/-
  The kernel's selection: after round `r` each expert's row of probabilities has −1 at its first `r` listed tokens, and
  the first `r` places of the index and gate arrays hold those tokens and their probabilities.
-/
module

public import proofs.«01_k».proof.Proof.Probs

@[expose] public section

noncomputable section

namespace Cert.KernelIdeal.Hand

open Cert.KernelIdeal Cert.KernelIdeal.Gen
open Idealize.ShloMosaic Idealize.ShloMosaic.ValueIdx

/-! ## Words and layout -/

/-- A choice by the equality of two words below `2 ^ 32`. -/
theorem select_word_eq {α : Type} (a b : ℕ) (ha : a < 2 ^ 32) (hb : b < 2 ^ 32) (A B : α) :
    Scalar.select (IntOp.cmpi .eq (BitVec.ofNat 32 a) (BitVec.ofNat 32 b)) A B = if a = b then A else B := by
  unfold Scalar.select IntOp.cmpi
  have h : (BitVec.ofNat 32 a == BitVec.ofNat 32 b) = decide (a = b) := by
    rw [Bool.eq_iff_iff, beq_iff_eq, decide_eq_true_eq]
    refine ⟨fun h => ?_, fun h => by rw [h]⟩
    have := congrArg BitVec.toNat h
    rwa [BitVec.toNat_ofNat, BitVec.toNat_ofNat, Nat.mod_eq_of_lt ha, Nat.mod_eq_of_lt hb] at this
  simp only [h]
  by_cases hab : a = b <;> simp [hab]

/-- The kernel makes 32 rounds. -/
theorem trips_eq : k0_t1_loop.trips = 32 := by decide

/-- The mark the kernel puts at a token taken is −1. -/
theorem neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- A choice by the equality of two extended reals. -/
theorem select_real_eq {α : Type} (a b : EReal) (A B : α) :
    Scalar.select (Ideal.cmp .oeq a b) A B = if a = b then A else B := by
  unfold Scalar.select Ideal.cmp
  by_cases hab : a = b <;> simp [hab]

/-- A vector of 64 as a column, read at a row. -/
theorem col_apply {α : Type} (v : S64.Idx → α) (e : Fin 64) :
    shapeCast S64x1 v shapeCasts_S64_S64x1 (ix2 e 0) = v (ix1 e) := by
  refine shapeCast_apply (s := S64) (t := S64x1) v _ (ix2 e 0) (ix1 e) ?_
  rw [Shape.rowMajor_val_one, Shape.rowMajor_val_two]
  show e.val = e.val * 1 + 0
  omega

/-- A column repeated over 2048 positions. -/
theorem col2048_apply {α : Type} (v : S64x1.Idx → α) (e : Fin 64) (s : Fin 2048) :
    broadcastTo S64x2048 v broadcasts_S64x1_S64x2048 (ix2 e s) = v (ix2 e 0) :=
  broadcastTo_apply (s := S64x1) (t := S64x2048) _ _ (ix2 e s) (ix2 e 0) (fun a => match a with
    | ⟨0, _⟩ => rfl
    | ⟨1, _⟩ => rfl)

/-- A column repeated over 32 positions. -/
theorem col32_apply {α : Type} (v : S64x1.Idx → α) (e : Fin 64) (k : Fin 32) :
    broadcastTo S64x32 v broadcasts_S64x1_S64x32 (ix2 e k) = v (ix2 e 0) :=
  broadcastTo_apply (s := S64x1) (t := S64x32) _ _ (ix2 e k) (ix2 e 0) (fun a => match a with
    | ⟨0, _⟩ => rfl
    | ⟨1, _⟩ => rfl)

/-! ## One round -/

section Round

variable (p : Fin 64 → Fin 2048 → EReal) (hp : ∀ e s, 0 ≤ p e s) (r : Fin 32)
  (a : FVec Ideal S64x2048 .f32) (ha : ∀ e s, a (ix2 e s) = left (p e) r.val s)
include hp ha

/-- The greatest probability left is that of the token listed at place `r`. -/
theorem round_max (e : Fin 64) : k0_pay17 a (ix2 e 0) = p e (order (p e) (r.castLE (by norm_num))) := by
  unfold k0_pay17
  refine (col_apply _ e).trans ((row_max a _ _ _ e).trans ?_)
  rw [show (fun s => a (ix2 e s)) = left (p e) r.val from funext (ha e)]
  exact fold_max_left (p e) (hp e) (r.castLE (by norm_num))

/-- The least position holding it is that token's. -/
theorem round_idx (e : Fin 64) : k0_pay18 a (ix2 e 0) = BitVec.ofNat 32 (order (p e) (r.castLE (by norm_num))).val := by
  unfold k0_pay18
  refine (col_apply _ e).trans ((row_min _ _ _ e).trans ?_)
  refine Eq.trans ?_ (fold_minsi_left (p e) le_rfl (hp e) (r.castLE (by norm_num)))
  refine congrArg (fun f => Finset.fold IKind.minsi.op 2147483647#32 f Finset.univ) (funext fun s => ?_)
  show Scalar.select (Ideal.cmp .oeq (a (ix2 e s)) (broadcastTo S64x2048 (k0_pay17 a) broadcasts_S64x1_S64x2048 (ix2 e s)))
    (iota .tc S64x2048 32 [1] iota_S64x2048_d1_w32 (ix2 e s)) 2048#32 = _
  rw [select_real_eq, col2048_apply, round_max p hp r a ha e, ha, iota_single_apply]
  rfl

/-- What is left after the round. -/
theorem round_left (e : Fin 64) (s : Fin 2048) : k0_pay19 a (ix2 e s) = left (p e) (r.val + 1) s := by
  show Scalar.select (IntOp.cmpi .eq (iota .tc S64x2048 32 [1] iota_S64x2048_d1_w32 (ix2 e s))
    (broadcastTo S64x2048 (k0_pay18 a) broadcasts_S64x1_S64x2048 (ix2 e s))) (Ideal.ofBits .f32 0xBF800000#32) (a (ix2 e s)) = _
  rw [col2048_apply, round_idx p hp r a ha e, iota_single_apply, ha]
  have hs := s.isLt
  have ho := (order (p e) (r.castLE (by norm_num))).isLt
  refine (select_word_eq s.val _ (by omega) (by omega) _ _).trans ?_
  rw [show left (p e) (r.val + 1) = _ from left_succ (p e) (r.castLE (by norm_num))]
  exact if_congr Fin.ext_iff.symm neg_one rfl

/-- The index array after the round. -/
theorem round_indices (t : Fin k0_t1_loop.trips) (ht : t.val = r.val) (v : IVec S64x32 32) (e : Fin 64) (k : Fin 32) :
    k0_pay20 t a v (ix2 e k) = if k = r then BitVec.ofNat 32 (order (p e) (r.castLE (by norm_num))).val else v (ix2 e k) := by
  show Scalar.select (IntOp.cmpi .eq (iota .tc S64x32 32 [1] iota_S64x32_d1_w32 (ix2 e k)) (0#32 + BitVec.ofNat 32 t.val * 1#32))
    (broadcastTo S64x32 (shapeCast S64x1 (k0_pay18 a) shapeCasts_S64x1_S64x1) broadcasts_S64x1_S64x32 (ix2 e k)) (v (ix2 e k)) = _
  rw [shapeCast_self, col32_apply, round_idx p hp r a ha e, iota_single_apply, BitVec.mul_one, BitVec.zero_add, ht]
  have hk := k.isLt
  have hr := r.isLt
  exact (select_word_eq k.val r.val (by omega) (by omega) _ _).trans (if_congr Fin.ext_iff.symm rfl rfl)

/-- The gate array after the round. -/
theorem round_gates (t : Fin k0_t1_loop.trips) (ht : t.val = r.val) (v : FVec Ideal S64x32 .f32) (e : Fin 64) (k : Fin 32) :
    k0_pay21 t a v (ix2 e k) = if k = r then p e (order (p e) (r.castLE (by norm_num))) else v (ix2 e k) := by
  show Scalar.select (IntOp.cmpi .eq (iota .tc S64x32 32 [1] iota_S64x32_d1_w32 (ix2 e k)) (0#32 + BitVec.ofNat 32 t.val * 1#32))
    (broadcastTo S64x32 (shapeCast S64x1 (k0_pay17 a) shapeCasts_S64x1_S64x1) broadcasts_S64x1_S64x32 (ix2 e k)) (v (ix2 e k)) = _
  rw [shapeCast_self, col32_apply, round_max p hp r a ha e, iota_single_apply, BitVec.mul_one, BitVec.zero_add, ht]
  have hk := k.isLt
  have hr := r.isLt
  exact (select_word_eq k.val r.val (by omega) (by omega) _ _).trans (if_congr Fin.ext_iff.symm rfl rfl)

end Round

/-! ## All rounds -/

/-- A property of the trip and the carried value that each trip keeps holds after the last. -/
theorem fold_keeps {σ : Type} {n : ℕ} (g : Fin n → σ → σ) (init : σ) (Inv : ℕ → σ → Prop) (h0 : Inv 0 init)
    (hs : ∀ (k : Fin n) acc, Inv k.val acc → Inv (k.val + 1) (g k acc)) : Inv n (Scf.fold g init) := by
  rw [Scf.fold_eq]
  have key : ∀ (l : List (Fin n)) (r : ℕ) (acc : σ), l.map Fin.val = List.range' r l.length → Inv r acc →
      Inv (r + l.length) (l.foldl (fun acc k => g k acc) acc) := by
    intro l
    induction l with
    | nil => exact fun r acc _ h => h
    | cons k l ih =>
      intro r acc hl h
      rw [List.map_cons, List.length_cons, List.range'_succ, List.cons.injEq] at hl
      rw [List.foldl_cons, List.length_cons, Nat.add_comm l.length 1, ← Nat.add_assoc]
      exact ih (r + 1) _ hl.2 (hl.1 ▸ hs k acc (hl.1 ▸ h))
  have h := key (List.finRange n) 0 init (by
    rw [List.map_coe_finRange_eq_range, List.length_finRange, List.range_eq_range']) h0
  rwa [List.length_finRange, Nat.zero_add] at h

/-- The indices and gates that the selection leaves, where the probabilities are at least zero. -/
theorem sel_apply (x : Vec Ideal S2048x768 .f32) (ch : Vec Ideal S64x768 .f32)
    (hp : ∀ e s, 0 ≤ prob (fun s d => x (ix2 s d)) (fun e d => ch (ix2 e d)) e s) (e : Fin 64) (k : Fin 32) :
    (sel x ch).2.1 (ix2 e k) = BitVec.ofNat 32 (pick (fun s d => x (ix2 s d)) (fun e d => ch (ix2 e d)) e k).val
    ∧ (sel x ch).2.2 (ix2 e k) = gate (fun s d => x (ix2 s d)) (fun e d => ch (ix2 e d)) e k := by
  obtain ⟨p, hP⟩ : ∃ p, prob (fun s d => x (ix2 s d)) (fun e d => ch (ix2 e d)) = p := ⟨_, rfl⟩
  rw [hP] at hp
  have h := fold_keeps (n := k0_t1_loop.trips)
    (fun k (a : FVec Ideal S64x2048 .f32 × IVec S64x32 32 × FVec Ideal S64x32 .f32) =>
      (k0_pay19 a.1, k0_pay20 k a.1 a.2.1, k0_pay21 k a.1 a.2.2)) (k0_pay14 x ch, k0_pay15, k0_pay16)
    (fun r a => ∀ e : Fin 64, (∀ s, a.1 (ix2 e s) = left (p e) r s) ∧ ∀ k : Fin 32, k.val < r →
      a.2.1 (ix2 e k) = BitVec.ofNat 32 (order (p e) (k.castLE (by norm_num))).val
      ∧ a.2.2 (ix2 e k) = p e (order (p e) (k.castLE (by norm_num))))
    (fun e => ⟨fun s => by rw [left_zero, ← hP]; exact probs_apply x ch e s, fun k hk => absurd hk (Nat.not_lt_zero _)⟩)
    (fun t a ih e => by
      have ht : t.val < 32 := lt_of_lt_of_eq t.isLt trips_eq
      have hl : ∀ e s, a.1 (ix2 e s) = left (p e) (⟨t.val, ht⟩ : Fin 32).val s := fun e => (ih e).1
      have hn := round_left p hp ⟨t.val, ht⟩ a.1 hl e
      dsimp only at hn ⊢
      refine ⟨hn, fun k hk => ?_⟩
      show k0_pay20 t a.1 a.2.1 (ix2 e k) = _ ∧ k0_pay21 t a.1 a.2.2 (ix2 e k) = _
      rw [round_indices p hp ⟨t.val, ht⟩ a.1 hl t rfl, round_gates p hp ⟨t.val, ht⟩ a.1 hl t rfl]
      by_cases hkt : k = ⟨t.val, ht⟩
      · rw [if_pos hkt, if_pos hkt, hkt]
        exact ⟨rfl, rfl⟩
      · rw [if_neg hkt, if_neg hkt]
        exact (ih e).2 k (lt_of_le_of_ne (Nat.lt_succ_iff.1 hk) fun h => hkt (Fin.ext h)))
  have he := (h e).2 k (lt_of_lt_of_eq k.isLt trips_eq.symm)
  unfold pick gate pick
  rw [hP]
  exact he

end Cert.KernelIdeal.Hand

end
-- ==== Proof.Blocks.lean ====
/-
  What the kernel's arrays hold, entry by entry: the one-hot rows, the gathered rows, the gated output rows, and the result,
  which is the layer.
-/
module

public import proofs.«01_k».proof.Proof.Select

@[expose] public section

noncomputable section

namespace Cert.KernelIdeal.Hand

open Cert.KernelIdeal Cert.KernelIdeal.Gen
open Idealize.ShloMosaic Idealize.ShloMosaic.ValueIdx

/-! ## Layout -/

/-- A row of 32 turned into a column, read at a position. -/
theorem turn_apply {α : Type} (v : S1x32.Idx → α) (k : Fin 32) :
    shapeCast S32x1 (shapeCast S32 v shapeCasts_S1x32_S32) shapeCasts_S32_S32x1 (ix2 k 0) = v (ix2 0 k) := by
  refine (shapeCast_apply (s := S32) (t := S32x1) _ _ (ix2 k 0) (ix1 k) ?_).trans
    (shapeCast_apply (s := S1x32) (t := S32) v _ (ix1 k) (ix2 0 k) ?_)
  · rw [Shape.rowMajor_val_one, Shape.rowMajor_val_two]
    show k.val = k.val * 1 + 0
    omega
  · rw [Shape.rowMajor_val_one, Shape.rowMajor_val_two]
    show 0 * 32 + k.val = k.val
    omega

/-- A column of 32 repeated over 2048 positions. -/
theorem wide2048_apply {α : Type} (v : S32x1.Idx → α) (k : Fin 32) (s : Fin 2048) :
    broadcastTo S32x2048 v broadcasts_S32x1_S32x2048 (ix2 k s) = v (ix2 k 0) :=
  broadcastTo_apply (s := S32x1) (t := S32x2048) _ _ (ix2 k s) (ix2 k 0) (fun a => match a with
    | ⟨0, _⟩ => rfl
    | ⟨1, _⟩ => rfl)

/-- A column of 32 repeated over 768 positions. -/
theorem wide768_apply {α : Type} (v : S32x1.Idx → α) (k : Fin 32) (d : Fin 768) :
    broadcastTo S32x768 v broadcasts_S32x1_S32x768 (ix2 k d) = v (ix2 k 0) :=
  broadcastTo_apply (s := S32x1) (t := S32x768) _ _ (ix2 k d) (ix2 k 0) (fun a => match a with
    | ⟨0, _⟩ => rfl
    | ⟨1, _⟩ => rfl)

/-- An expert's first weights without the unit dimension. -/
theorem w1_apply {α : Type} (v : S1x1024x768.Idx → α) (f : Fin 1024) (d : Fin 768) :
    shapeCast S1024x768 v shapeCasts_S1x1024x768_S1024x768 (ix2 f d) = v (ix3 0 f d) :=
  (shapeCast_dropUnit_apply ![1024, 768] v _ (ix2 f d)).trans
    (congrArg v (funext fun a => match a with | ⟨0, _⟩ => rfl | ⟨1, _⟩ => rfl | ⟨2, _⟩ => rfl))

/-- An expert's second weights without the unit dimension. -/
theorem w2_apply {α : Type} (v : S1x768x1024.Idx → α) (d : Fin 768) (f : Fin 1024) :
    shapeCast S768x1024 v shapeCasts_S1x768x1024_S768x1024 (ix2 d f) = v (ix3 0 d f) :=
  (shapeCast_dropUnit_apply ![768, 1024] v _ (ix2 d f)).trans
    (congrArg v (funext fun a => match a with | ⟨0, _⟩ => rfl | ⟨1, _⟩ => rfl | ⟨2, _⟩ => rfl))

/-! ## Payloads -/

/-- The equality of two words below `2 ^ 32` as a bit. -/
theorem bit_word_eq (a b : ℕ) (ha : a < 2 ^ 32) (hb : b < 2 ^ 32) :
    IntOp.cmpi .eq (BitVec.ofNat 32 a) (BitVec.ofNat 32 b) = if a = b then 1#1 else 0#1 := by
  have h := select_word_eq a b ha hb (1#1) (0#1)
  rw [← h]
  generalize IntOp.cmpi .eq (BitVec.ofNat 32 a) (BitVec.ofNat 32 b) = c
  revert c
  decide

/-- The kernel's word for one. -/
theorem one_word : Ideal.ofBits .f32 0x3F800000#32 = 1 := by
  rw [show (1 : EReal) = ((1 : ℝ) : EReal) by norm_cast]
  simp [Ideal.ofBits, Ideal.ieee, -EReal.coe_mul]; norm_num

/-- An expert's one-hot rows. -/
theorem onehot_apply (v : S1x32.Idx → BitVec 32) (k : Fin 32) (s t : Fin 2048) (h : v (ix2 0 k) = BitVec.ofNat 32 t.val) :
    k0_pay2 (F := Ideal) v (ix2 k s) = if t = s then 1 else 0 := by
  unfold k0_pay2
  rw [shapeCast_self]
  show (((((IntOp.cmpi .eq (iota .tc S32x2048 32 [1] iota_S32x2048_d1_w32 (ix2 k s))
    (broadcastTo S32x2048 (shapeCast S32x1 (shapeCast S32 v shapeCasts_S1x32_S32) shapeCasts_S32_S32x1)
      broadcasts_S32x1_S32x2048 (ix2 k s))).setWidth 32).toInt : ℤ) : ℝ) : EReal) = _
  rw [wide2048_apply, turn_apply, h, iota_single_apply]
  have hs := s.isLt
  have ht := t.isLt
  have hb : IntOp.cmpi .eq (BitVec.ofNat 32 s.val) (BitVec.ofNat 32 t.val) = if s.val = t.val then 1#1 else 0#1 :=
    bit_word_eq s.val t.val (by omega) (by omega)
  refine (congrArg (fun b : BitVec 1 => ((((b.setWidth 32).toInt : ℤ) : ℝ) : EReal)) hb).trans ?_
  by_cases hst : t = s
  · subst hst
    rw [if_pos rfl, if_pos rfl]
    simp
  · rw [if_neg fun h => hst (Fin.ext h.symm), if_neg hst]
    simp

/-- An expert's gated output rows. -/
theorem expert_apply (g : S1x32.Idx → EReal) (xr : S32x768.Idx → EReal) (u : S1x1024x768.Idx → EReal)
    (w : S1x768x1024.Idx → EReal) (k : Fin 32) (d : Fin 768) :
    k0_pay25 (F := Ideal) g xr u w (ix2 k d)
      = (∑ f : Fin 1024, act (∑ d' : Fin 768, xr (ix2 k d') * u (ix3 0 f d')) * w (ix3 0 d f)) * g (ix2 0 k) := by
  unfold k0_pay25
  rw [shapeCast_self]
  refine congr (congrArg (fun a b : EReal => a * b) ((down_apply _ _ k d).trans (Finset.sum_congr rfl fun f _ => ?_)))
    ((wide768_apply _ k d).trans (turn_apply g k))
  refine congr (congrArg (fun a b : EReal => a * b) ?_) (w2_apply w d f)
  have hh := (up_apply xr (shapeCast S1024x768 u shapeCasts_S1x1024x768_S1024x768) k f).trans
    (Finset.sum_congr rfl fun d' _ => congrArg (xr (ix2 k d') * ·) (w1_apply u f d'))
  rw [← hh]
  show Ideal.div _ (Ideal.ofBits .f32 0x3F800000#32 + Ideal.exp (Ideal.ofBits .f32 0x00000000#32 - _)) = _
  rw [one_word, Ideal.ofBits_zero_f32, zero_sub]
  rfl

/-! ## The arrays -/

/-- The row of the 2048 rows that is an expert's place. -/
def at_ (e : Fin 64) (k : Fin 32) : Fin 2048 := ⟨32 * e.val + k.val, by have := e.isLt; have := k.isLt; omega⟩

/-- The row of an expert's place belongs to that expert. -/
theorem ex_at (e : Fin 64) (k : Fin 32) : ex (at_ e k) = e := Fin.ext (by
  have := k.isLt
  show (32 * e.val + k.val) / 32 = e.val
  omega)
/-- The row of an expert's place has that place's number. -/
theorem kk_at (e : Fin 64) (k : Fin 32) : kk (at_ e k) = k := Fin.ext (by
  have := k.isLt
  show (32 * e.val + k.val) % 32 = k.val
  omega)
/-- Every row is the one of its expert and its place. -/
theorem at_ex_kk (q : Fin 2048) : at_ (ex q) (kk q) = q := Fin.ext (by
  show 32 * (q.val / 32) + q.val % 32 = q.val
  omega)

/-- A sum over the 2048 rows by experts and places. -/
theorem sum_rows (f : Fin 2048 → EReal) : ∑ q, f q = ∑ e : Fin 64, ∑ k : Fin 32, f (at_ e k) := by
  rw [← Fintype.sum_prod_type' (f := fun e k => f (at_ e k))]
  refine Fintype.sum_equiv ⟨fun q => (ex q, kk q), fun y => at_ y.1 y.2, at_ex_kk, fun y => ?_⟩ _ _ fun q => ?_
  · exact Prod.ext (ex_at _ _) (kk_at _ _)
  · exact congrArg f (at_ex_kk q).symm

section Arrays

variable (x : Vec Ideal S2048x768 .f32) (ch : Vec Ideal S64x768 .f32)
  (hp : ∀ e s, 0 ≤ prob (fun s d => x (ix2 s d)) (fun e d => ch (ix2 e d)) e s)
include hp

/-- The one-hot rows. -/
theorem ctOf_apply (e : Fin 64) (k : Fin 32) (s : Fin 2048) :
    ctOf (F := Ideal) (sel x ch).2.1 (ix2 (at_ e k) s)
      = hot (fun s d => x (ix2 s d)) (fun e d => ch (ix2 e d)) e k s := by
  show k0_pay2 (row1 (sel x ch).2.1 (ex (at_ e k))) (ix2 (kk (at_ e k)) s) = _
  rw [ex_at, kk_at]
  exact onehot_apply _ k s _ (sel_apply x ch hp e k).1

/-- The gathered rows. -/
theorem xgOf_apply (e : Fin 64) (k : Fin 32) (d : Fin 768) :
    xgOf (F := Ideal) (ctOf (sel x ch).2.1) (k0_pay13 x) (ix2 (at_ e k) d)
      = rows (fun s d => x (ix2 s d)) (fun e d => ch (ix2 e d)) e k d := by
  have hx : k0_pay13 x = x := (shapeCast_self _ _).trans (shapeCast_self x _)
  rw [hx]
  have hq := (at_ e k).isLt
  show k0_pay24 (F := Ideal) (blk256 (ctOf (F := Ideal) (sel x ch).2.1) ⟨(at_ e k).val / 256, by omega⟩) (x : S2048x768.Idx → EReal)
    (ix2 ⟨(at_ e k).val % 256, Nat.mod_lt _ (by norm_num)⟩ d) = _
  unfold k0_pay24
  rw [shapeCast_self]
  refine (gather_apply _ _ _ d).trans (Finset.sum_congr rfl fun s _ => ?_)
  refine congrArg (· * x (ix2 s d)) (Eq.trans ?_ (ctOf_apply x ch hp e k s))
  refine congrArg (fun q => ctOf (F := Ideal) (sel x ch).2.1 (ix2 q s)) (Fin.ext ?_)
  show 256 * ((at_ e k).val / 256) + (at_ e k).val % 256 = (at_ e k).val
  omega

variable (W1 : Fin 64 → S1x1024x768.Idx → EReal) (W2 : Fin 64 → S1x768x1024.Idx → EReal)

/-- The gated output rows. -/
theorem yOf_apply (e : Fin 64) (k : Fin 32) (d : Fin 768) :
    yOf (F := Ideal) (sel x ch).2.2 (xgOf (ctOf (sel x ch).2.1) (k0_pay13 x)) W1 W2 (ix2 (at_ e k) d)
      = ffn (fun s d => x (ix2 s d)) (fun e d => ch (ix2 e d)) (fun e f d => W1 e (ix3 0 f d)) (fun e d f => W2 e (ix3 0 d f)) e k d
        * gate (fun s d => x (ix2 s d)) (fun e d => ch (ix2 e d)) e k := by
  show yRow (sel x ch).2.2 (xgOf (ctOf (sel x ch).2.1) (k0_pay13 x)) (W1 (ex (at_ e k))) (W2 (ex (at_ e k))) (ex (at_ e k))
    (ix2 (kk (at_ e k)) d) = _
  rw [ex_at, kk_at]
  refine (expert_apply _ _ _ _ k d).trans ?_
  refine congr (congrArg (fun a b : EReal => a * b) (Finset.sum_congr rfl fun f _ => ?_)) (sel_apply x ch hp e k).2
  refine congrArg (fun h => act h * W2 e (ix3 0 d f)) (Finset.sum_congr rfl fun d' _ => ?_)
  exact congrArg (· * W1 e (ix3 0 f d')) (xgOf_apply x ch hp e k d')

/-- The kernel's result is the layer. -/
theorem outOf_apply (s : Fin 2048) (d : Fin 768) :
    outOf (F := Ideal) x ch W1 W2 (ix2 s d)
      = layer (fun s d => x (ix2 s d)) (fun e d => ch (ix2 e d)) (fun e f d => W1 e (ix3 0 f d)) (fun e d f => W2 e (ix3 0 d f)) s d := by
  unfold outOf k0_pay1
  refine (scatter_apply _ _ s d).trans ((sum_rows _).trans ?_)
  refine Finset.sum_congr rfl fun e _ => Finset.sum_congr rfl fun k _ => ?_
  rw [ctOf_apply x ch hp, yOf_apply x ch hp]

end Arrays

end Cert.KernelIdeal.Hand

end
-- ==== Proof.RefSelect.lean ====
/-
  The reference's routing, entry by entry: the router's probabilities, each expert's chosen tokens and gates, and the one-hot
  array made of them.
-/
module

public import proofs.«01_k».proof.Proof.Gen.ReferenceIdeal.Read
public import proofs.«01_k».proof.Proof.Blocks

@[expose] public section

noncomputable section

namespace Cert.ReferenceIdeal.Hand

open Cert.ReferenceIdeal Cert.ReferenceIdeal.Gen Cert.ReferenceIdeal.Read
open Idealize.ShloMosaic Idealize.ShloMosaic.ValueIdx
open Cert.KernelIdeal.Hand (order before prob pick gate hot logit peak weight)

/-! ## The greatest entries of a row -/

/-- A position of the array with its last coordinate replaced. -/
theorem along_last (e : Fin 64) (s t : Fin 2048) (h : 2 < S1x64x2048.rank) :
    Shape.Idx.along (s := S1x64x2048) (ix3 0 e s) ⟨2, h⟩ t = ix3 0 e t := by
  funext a
  match a with
  | ⟨0, _⟩ => rfl
  | ⟨1, _⟩ => rfl
  | ⟨2, _⟩ => rfl

/-- The values and positions of the 32 greatest entries of each row, greatest first, equal ones by position. -/
theorem topK_apply (x : S1x64x2048.Idx → EReal) (h : S1x64x2048.Slices (fun _ => 0) S1x64x32) (e : Fin 64) (k : Fin 32) :
    (Host.topK S1x64x32 2 (FloatOps.cmpfTotal (F := Ideal) (φ := .f32) .gt) x h).1 (ix3 0 e k)
      = x (ix3 0 e (order (fun s => x (ix3 0 e s)) (k.castLE (by norm_num))))
    ∧ (Host.topK S1x64x32 2 (FloatOps.cmpfTotal (F := Ideal) (φ := .f32) .gt) x h).2 (ix3 0 e k)
      = BitVec.ofNat 32 (order (fun s => x (ix3 0 e s)) (k.castLE (by norm_num))).val := by
  have hd : 2 < S1x64x2048.rank := by decide
  have hb : (fun a b : Fin 2048 => FloatOps.cmpfTotal (F := Ideal) (φ := .f32) .gt
      (x (Shape.Idx.along (s := S1x64x2048) (ix3 0 e (k.castLE (by norm_num))) ⟨2, hd⟩ a))
      (x (Shape.Idx.along (s := S1x64x2048) (ix3 0 e (k.castLE (by norm_num))) ⟨2, hd⟩ b)) == 1#1)
        = before fun s => x (ix3 0 e s) := by
    funext a b
    rw [along_last, along_last]
    rfl
  have hj : ∀ a : Fin 3, ((ix3 (0 : Fin 1) e (k.castLE (m := 2048) (by norm_num))) a).val
      = 0 + ((ix3 (0 : Fin 1) e k) a).val := fun a => match a with
    | ⟨0, _⟩ => rfl
    | ⟨1, _⟩ => (Nat.zero_add _).symm
    | ⟨2, _⟩ => (Nat.zero_add _).symm
  unfold Host.topK Host.sort2
  simp only [dif_pos hd]
  constructor
  · refine (extractStridedSlice_apply _ _ h (ix3 0 e k) (ix3 0 e (k.castLE (by norm_num))) hj).trans ?_
    refine congrArg x ((along_last e _ _ hd).trans ?_)
    exact congrArg (fun b => ix3 (0 : Fin 1) e (sortedFrom b (k.castLE (by norm_num)))) hb
  · refine (extractStridedSlice_apply _ _ h (ix3 0 e k) (ix3 0 e (k.castLE (by norm_num))) hj).trans ?_
    exact (congrArg (fun q : S1x64x2048.Idx => iotaInDim S1x64x2048 32 ⟨2, hd⟩ q) ((along_last e _ _ hd).trans
      (congrArg (fun b => ix3 (0 : Fin 1) e (sortedFrom b (k.castLE (by norm_num)))) hb))).trans rfl

/-! ## The routing -/

section

variable (x0 : S1x2048x768.Idx → EReal) (x1 : S64x768.Idx → EReal)

/-- The tokens and the router's weights by their coordinates. -/
def tok (s : Fin 2048) (d : Fin 768) : EReal := x0 (ix3 0 s d)
def rou (e : Fin 64) (d : Fin 768) : EReal := x1 (ix2 e d)

/-- The scores. -/
theorem v0_apply (s : Fin 2048) (e : Fin 64) : val_main_v0 (F := Ideal) x0 x1 (ix3 0 s e) = logit (tok x0) (rou x1) e s := by
  refine (val_main_v0_apply x0 x1 _).trans (Finset.sum_congr rfl fun d _ => ?_)
  refine (mul_comm _ _).trans (congr (congrArg (fun a b : EReal => a * b) ?_) ?_)
  · exact congrArg x1 (funext fun a => match a with | ⟨0, _⟩ => rfl | ⟨1, _⟩ => rfl)
  · exact congrArg x0 (funext fun a => match a with | ⟨0, _⟩ => rfl | ⟨1, _⟩ => rfl | ⟨2, _⟩ => rfl)

/-- The last axis reduced. -/
theorem reduces_last : S1x2048x64.Reduces [2] S1x2048 := by decide

/-- The greatest score of a token. -/
theorem v1_apply (s : Fin 2048) : val_main_v1 (F := Ideal) x0 x1 (ix2 0 s) = peak (tok x0) (rou x1) s := by
  unfold val_main_v1
  refine (Host.reduce_eq_fold_single _ _ _ reducesTo_S1x2048x64_S1x2048_d2 reduces_last h_S_ (ix2 0 s)).trans ?_
  have hc : val_main_cst (F := Ideal) (Shape.Idx.first h_S_) = ⊥ := Cert.KernelIdeal.Hand.neg_inf
  rw [hc]
  refine congrArg (fun f : Fin 64 → EReal => Finset.fold max ⊥ f Finset.univ) (funext fun e => ?_)
  refine Eq.trans (congrArg (val_main_v0 (F := Ideal) x0 x1) ?_) (v0_apply x0 x1 s e)
  exact funext fun a => Fin.ext (match a with | ⟨0, _⟩ => rfl | ⟨1, _⟩ => rfl | ⟨2, _⟩ => rfl)

/-- The unnormalised weights. -/
theorem v7_apply (s : Fin 2048) (e : Fin 64) : val_main_v7 (F := Ideal) x0 x1 (ix3 0 s e) = weight (tok x0) (rou x1) e s := by
  have h5 : val_main_v5 (F := Ideal) x0 x1 (ix3 0 s e) = peak (tok x0) (rou x1) s := by
    rw [val_main_v5_apply, val_main_v4_apply, val_main_v3_apply, val_main_v2_apply]
    refine Eq.trans ?_ (v1_apply x0 x1 s)
    have hc : val_main_cst_0 (F := Ideal) (idx_main_v2 (idx_main_v4 (idx_main_v5 (ix3 0 s e)))) = ⊥ := Cert.KernelIdeal.Hand.neg_inf
    rw [hc]
    refine (max_eq_right bot_le).trans (congrArg (val_main_v1 (F := Ideal) x0 x1) ?_)
    exact funext fun a => match a with | ⟨0, _⟩ => rfl | ⟨1, _⟩ => rfl
  rw [val_main_v7_apply, val_main_v6_apply, h5, v0_apply]
  rfl

/-- The probabilities. -/
theorem v12_apply (e : Fin 64) (s : Fin 2048) : val_main_v12 (F := Ideal) x0 x1 (ix3 0 e s) = prob (tok x0) (rou x1) e s := by
  have hi : idx_main_v12 (ix3 0 e s) = ix3 0 s e := funext fun a => match a with | ⟨0, _⟩ => rfl | ⟨1, _⟩ => rfl | ⟨2, _⟩ => rfl
  rw [val_main_v12_apply, hi, val_main_v11_apply, v7_apply, val_main_v10_apply, val_main_v9_apply, val_main_v8_apply]
  refine congrArg (Ideal.div _) ?_
  have hc : val_main_cst_1 (F := Ideal) (Shape.Idx.first h_S_) = 0 := Ideal.ofBits_zero_f32
  rw [hc, zero_add]
  refine Finset.sum_congr rfl fun e' _ => Eq.trans (congrArg (val_main_v7 (F := Ideal) x0 x1) ?_) (v7_apply x0 x1 s e')
  exact funext fun a => match a with | ⟨0, _⟩ => rfl | ⟨1, _⟩ => rfl | ⟨2, _⟩ => rfl

/-- A row of the probabilities. -/
theorem row_eq (e : Fin 64) : (fun s => val_main_v12 (F := Ideal) x0 x1 (ix3 0 e s)) = prob (tok x0) (rou x1) e :=
  funext fun s => v12_apply x0 x1 e s

/-- The gates. -/
theorem values_apply (e : Fin 64) (k : Fin 32) : val_main_values (F := Ideal) x0 x1 (ix3 0 e k) = gate (tok x0) (rou x1) e k := by
  unfold val_main_values
  refine (topK_apply _ _ e k).1.trans ?_
  rw [row_eq]
  exact v12_apply x0 x1 e _

/-- The chosen tokens. -/
theorem indices_apply (e : Fin 64) (k : Fin 32) :
    val_main_indices (F := Ideal) x0 x1 (ix3 0 e k) = BitVec.ofNat 32 (pick (tok x0) (rou x1) e k).val := by
  unfold val_main_indices
  refine (topK_apply _ _ e k).2.trans ?_
  rw [row_eq]
  rfl

/-- The one-hot array. -/
theorem v13_apply (i : S1x64x32x2048.Idx) (e : Fin 64) (k : Fin 32) (s : Fin 2048) (he : i 1 = e) (hk : i 2 = k) (hs : i 3 = s) :
    val_main_v13 (F := Ideal) x0 x1 i = hot (tok x0) (rou x1) e k s := by
  rw [val_main_v13_apply, val_main_call0_v4_apply, val_main_call0_v2_apply, val_main_call0_v0_apply, val_main_call0_v3_apply,
    val_main_call0_v1_apply]
  have hi : idx_main_call0_v0 (idx_main_call0_v2 i) = ix3 0 e k := funext fun a => match a with
    | ⟨0, _⟩ => rfl
    | ⟨1, _⟩ => he
    | ⟨2, _⟩ => hk
  rw [hi, indices_apply]
  have hsl := s.isLt
  have hpl := (pick (tok x0) (rou x1) e k).isLt
  have hv : (idx_main_call0_v3 i 3).val = s.val := congrArg Fin.val hs
  rw [hv]
  have hb : IntOp.cmpi .eq (BitVec.ofNat 32 (pick (tok x0) (rou x1) e k).val) (BitVec.ofNat 32 s.val)
      = if (pick (tok x0) (rou x1) e k).val = s.val then 1#1 else 0#1 :=
    Cert.KernelIdeal.Hand.bit_word_eq _ _ (by omega) (by omega)
  refine (congrArg (fun b : BitVec 1 => (((b.toNat : ℕ) : ℝ) : EReal)) hb).trans ?_
  unfold hot
  by_cases hst : pick (tok x0) (rou x1) e k = s
  · rw [if_pos hst, if_pos (congrArg Fin.val hst)]
    simp
  · rw [if_neg hst, if_neg fun h => hst (Fin.ext h)]
    simp

end

end Cert.ReferenceIdeal.Hand

end
-- ==== Proof.RefLayer.lean ====
/-
  The reference's experts and their combination, entry by entry: its result is the layer.
-/
module

public import proofs.«01_k».proof.Proof.RefSelect
public import Idealize.ShloMosaic.Lib.IdealHost

@[expose] public section

noncomputable section

namespace Cert.ReferenceIdeal.Hand

open Cert.ReferenceIdeal Cert.ReferenceIdeal.Gen Cert.ReferenceIdeal.Read
open Idealize.ShloMosaic Idealize.ShloMosaic.ValueIdx
open Cert.KernelIdeal.Hand (prob pick gate hot rows hidden act ffn layer scatter_mul one_add_exp_ne_zero one_word)

variable (x0 : S1x2048x768.Idx → EReal) (x1 : S64x768.Idx → EReal) (x2 : S64x1024x768.Idx → EReal)
  (x3 : S64x768x1024.Idx → EReal)

/-- The experts' weights by their coordinates. -/
def up (e : Fin 64) (f : Fin 1024) (d : Fin 768) : EReal := x2 (ix3 e f d)
def down (e : Fin 64) (d : Fin 768) (f : Fin 1024) : EReal := x3 (ix3 e d f)

/-- A coordinate along an axis of length one. -/
theorem unit_coord (a : Fin 1) : a = 0 := Subsingleton.elim _ _

/-- The gathered rows. -/
theorem v14_apply (i : S1x64x32x768.Idx) (e : Fin 64) (k : Fin 32) (d : Fin 768) (he : i 1 = e) (hk : i 2 = k) (hd : i 3 = d) :
    val_main_v14 (F := Ideal) x0 x1 i = rows (tok x0) (rou x1) e k d := by
  refine (val_main_v14_apply x0 x1 i).trans (Finset.sum_congr rfl fun s _ => ?_)
  refine congr (congrArg (fun a b : EReal => a * b) (v13_apply x0 x1 _ e k s he hk rfl)) ?_
  exact congrArg x0 (funext fun a => match a with | ⟨0, _⟩ => unit_coord _ | ⟨1, _⟩ => rfl | ⟨2, _⟩ => hd)

/-- The first products. -/
theorem v16_apply (i : S1x64x32x1024.Idx) (e : Fin 64) (k : Fin 32) (f : Fin 1024) (he : i 1 = e) (hk : i 2 = k) (hf : i 3 = f) :
    val_main_v16 (F := Ideal) x0 x1 x2 i = hidden (tok x0) (rou x1) (up x2) e k f := by
  rw [val_main_v16_apply, val_main_v15_apply]
  refine Finset.sum_congr rfl fun d _ => (mul_comm _ _).trans ?_
  refine congr (congrArg (fun a b : EReal => a * b) (v14_apply x0 x1 _ e k d he hk rfl)) ?_
  exact congrArg x2 (funext fun a => match a with | ⟨0, _⟩ => he | ⟨1, _⟩ => hf | ⟨2, _⟩ => rfl)

/-- The activations. -/
theorem v17_apply (i : S1x64x32x1024.Idx) (e : Fin 64) (k : Fin 32) (f : Fin 1024) (he : i 1 = e) (hk : i 2 = k) (hf : i 3 = f) :
    val_main_v17 (F := Ideal) x0 x1 x2 i = act (hidden (tok x0) (rou x1) (up x2) e k f) := by
  rw [val_main_v17_apply, val_main_call1_v5_apply, val_main_call1_v3_apply, val_main_call1_v1_apply, val_main_call1_v0_apply,
    val_main_call1_v4_apply, val_main_call1_v2_apply, v16_apply x0 x1 x2 i e k f he hk hf]
  generalize hidden (tok x0) (rou x1) (up x2) e k f = h
  show h * Ideal.div (Ideal.ofBits .f32 0x3F800000#32) (Ideal.ofBits .f32 0x3F800000#32 + Ideal.exp (-h)) = _
  rw [one_word]
  exact Ideal.mul_one_div (one_add_exp_ne_zero (-h))

/-- The experts' results. -/
theorem v19_apply (i : S1x64x32x768.Idx) (e : Fin 64) (k : Fin 32) (d : Fin 768) (he : i 1 = e) (hk : i 2 = k) (hd : i 3 = d) :
    val_main_v19 (F := Ideal) x0 x1 x2 x3 i = ffn (tok x0) (rou x1) (up x2) (down x3) e k d := by
  rw [val_main_v19_apply, val_main_v18_apply]
  refine Finset.sum_congr rfl fun f _ => (mul_comm _ _).trans ?_
  refine congr (congrArg (fun a b : EReal => a * b) (v17_apply x0 x1 x2 _ e k f he hk rfl)) ?_
  exact congrArg x3 (funext fun a => match a with | ⟨0, _⟩ => he | ⟨1, _⟩ => hd | ⟨2, _⟩ => rfl)

/-- The experts' results put back at their tokens. -/
theorem v20_apply (i : S1x64x2048x768.Idx) (e : Fin 64) (s : Fin 2048) (d : Fin 768) (he : i 1 = e) (hs : i 2 = s) (hd : i 3 = d) :
    val_main_v20 (F := Ideal) x0 x1 x2 x3 i
      = ∑ k : Fin 32, hot (tok x0) (rou x1) e k s * ffn (tok x0) (rou x1) (up x2) (down x3) e k d := by
  rw [val_main_v20_apply]
  exact Finset.sum_congr rfl fun k _ => congr (congrArg (fun a b : EReal => a * b) (v13_apply x0 x1 _ e k s he rfl hs))
    (v19_apply x0 x1 x2 x3 _ e k d he rfl hd)

/-- The gates put back at their tokens. -/
theorem v21_apply (i : S1x64x2048.Idx) (e : Fin 64) (s : Fin 2048) (he : i 1 = e) (hs : i 2 = s) :
    val_main_v21 (F := Ideal) x0 x1 i = ∑ k : Fin 32, hot (tok x0) (rou x1) e k s * gate (tok x0) (rou x1) e k := by
  rw [val_main_v21_apply]
  refine Finset.sum_congr rfl fun k _ => congr (congrArg (fun a b : EReal => a * b) (v13_apply x0 x1 _ e k s he rfl hs)) ?_
  refine (congrArg (val_main_values (F := Ideal) x0 x1) ?_).trans (values_apply x0 x1 e k)
  exact funext fun a => match a with | ⟨0, _⟩ => unit_coord _ | ⟨1, _⟩ => he | ⟨2, _⟩ => rfl

/-- The reference's result is the layer. -/
theorem v22_apply (i : S1x2048x768.Idx) (s : Fin 2048) (d : Fin 768) (hs : i 1 = s) (hd : i 2 = d) :
    val_main_v22 (F := Ideal) x0 x1 x2 x3 i = layer (tok x0) (rou x1) (up x2) (down x3) s d := by
  rw [val_main_v22_apply]
  refine Finset.sum_congr rfl fun e _ => Eq.trans ?_ (scatter_mul (tok x0) (rou x1) e s _ _)
  exact congr (congrArg (fun a b : EReal => a * b) (v20_apply x0 x1 x2 x3 _ e s d rfl hs hd)) (v21_apply x0 x1 _ e s rfl hs)

end Cert.ReferenceIdeal.Hand

end
-- ==== Proof.Equation.lean ====
/-
  The precondition read as numbers, and the kernel's result equal to the reference's under it.
-/
module

public import proofs.«01_k».proof.Proof.Result
public import proofs.«01_k».proof.Proof.Blocks
public import proofs.«01_k».proof.Proof.RefLayer
public import proofs.«01_k».proof.Pre_routing_finite

@[expose] public section

noncomputable section

namespace Cert.Hand

open Idealize.ShloMosaic hiding ix2 ix3
open Idealize.ShloMosaic.ValueIdx Idealize.ShloMosaic.TcCoe

/-- The word compared with is infinity. -/
theorem inf_word : Ideal.ofBits .f32 0x7F800000#32 = ⊤ := by
  simp [Ideal.ofBits, Ideal.ieee]

/-- An extended real whose absolute value lies below infinity is a number. -/
theorem real_of_abs_lt (x : EReal) (h : Ideal.cmp .olt (max x (-x)) (Ideal.ofBits .f32 0x7F800000#32) = 1#1) :
    ∃ r : ℝ, x = r := by
  rw [inf_word] at h
  have hlt : max x (-x) < ⊤ := by
    by_contra hn
    unfold Ideal.cmp at h
    simp [hn] at h
  induction x with
  | bot => exact absurd hlt (by simp)
  | top => exact absurd hlt (by simp)
  | coe r => exact ⟨r, rfl⟩

/-- The side conditions the precondition's function states. -/
theorem pre_facts : Cert.Pre_routing_finite.Facts := ⟨by decide, by decide⟩

/-- The precondition: the tokens and the router's weights are numbers. -/
theorem finite_of_pre [Cert.Pre_routing_finite.Facts] (x : FVec Ideal Cert.Pre_routing_finite.S1x2048x768 .f32) (ch : FVec Ideal Cert.Pre_routing_finite.S64x768 .f32)
    (w1 : FVec Ideal Cert.Pre_routing_finite.S64x1024x768 .f32) (w2 : FVec Ideal Cert.Pre_routing_finite.S64x768x1024 .f32)
    (h : (Cert.Pre_routing_finite.fn x ch w1 w2).1 = (fun _ => 1#1)
      ∧ (Cert.Pre_routing_finite.fn x ch w1 w2).2 = (fun _ => 1#1)) :
    (∀ i, ∃ r : ℝ, x i = r) ∧ ∀ i, ∃ r : ℝ, ch i = r :=
  ⟨fun i => real_of_abs_lt (x i) (congrFun h.1 i), fun i => real_of_abs_lt (ch i) (congrFun h.2 i)⟩

/-- The kernel's result is the reference's value of the arguments. -/
theorem result_eq_reference (m : (ℓ : Loc Cert.KernelIdeal.nD Cert.KernelIdeal.τ Cert.KernelIdeal.sig) → Buf (Elt Ideal) ℓ)
    (c : Dev Cert.KernelIdeal.nD)
    (x0 : Cert.ReferenceIdeal.S1x2048x768.Idx → EReal) (x1 : Cert.ReferenceIdeal.S64x768.Idx → EReal)
    (x2 : Cert.ReferenceIdeal.S64x1024x768.Idx → EReal) (x3 : Cert.ReferenceIdeal.S64x768x1024.Idx → EReal)
    (h0 : x0 = m ((c : Thread Cert.KernelIdeal.nD Cert.KernelIdeal.τ).loc Cert.KernelIdeal.main_arg0))
    (h1 : x1 = m ((c : Thread Cert.KernelIdeal.nD Cert.KernelIdeal.τ).loc Cert.KernelIdeal.main_arg1))
    (h2 : x2 = m ((c : Thread Cert.KernelIdeal.nD Cert.KernelIdeal.τ).loc Cert.KernelIdeal.main_arg2))
    (h3 : x3 = m ((c : Thread Cert.KernelIdeal.nD Cert.KernelIdeal.τ).loc Cert.KernelIdeal.main_arg3))
    (hx : ∀ i, ∃ r : ℝ, x0 i = r) (hc : ∀ i, ∃ r : ℝ, x1 i = r) :
    broadcastInDim Cert.KernelIdeal.S1x2048x768 ![1, 2] Cert.KernelIdeal.Gen.bcast_S2048x768_S1x2048x768_1_2
        (Cert.KernelIdeal.Hand.outOf (F := Ideal) (Cert.KernelIdeal.Hand.xIn m c) (Cert.KernelIdeal.Hand.chIn m c)
          (Cert.KernelIdeal.Hand.w1In m c) (Cert.KernelIdeal.Hand.w2In m c))
      = Cert.ReferenceIdeal.Read.val_main_v22 (F := Ideal) x0 x1 x2 x3 := by
  have e0 : (fun s d => Cert.KernelIdeal.Hand.xIn m c (ix2 s d)) = Cert.ReferenceIdeal.Hand.tok x0 := by
    funext s d; rw [h0]; exact Cert.KernelIdeal.Hand.xIn_apply m c (ix2 s d)
  have e1 : (fun e d => Cert.KernelIdeal.Hand.chIn m c (ix2 e d)) = Cert.ReferenceIdeal.Hand.rou x1 := by
    funext e d; rw [h1]; exact Cert.KernelIdeal.Hand.chIn_apply m c (ix2 e d)
  have e2 : (fun e f d => Cert.KernelIdeal.Hand.w1In m c e (ix3 0 f d)) = Cert.ReferenceIdeal.Hand.up x2 := by
    funext e f d; rw [h2]; exact Cert.KernelIdeal.Hand.w1In_apply m c e (ix3 0 f d)
  have e3 : (fun e d f => Cert.KernelIdeal.Hand.w2In m c e (ix3 0 d f)) = Cert.ReferenceIdeal.Hand.down x3 := by
    funext e d f; rw [h3]; exact Cert.KernelIdeal.Hand.w2In_apply m c e (ix3 0 d f)
  have hp : ∀ e s, 0 ≤ Cert.KernelIdeal.Hand.prob (fun s d => Cert.KernelIdeal.Hand.xIn m c (ix2 s d))
      (fun e d => Cert.KernelIdeal.Hand.chIn m c (ix2 e d)) e s := by
    rw [e0, e1]
    exact Cert.KernelIdeal.Hand.prob_nonneg (Cert.ReferenceIdeal.Hand.tok x0) (Cert.ReferenceIdeal.Hand.rou x1) (fun s d => hx _) (fun e d => hc _)
  funext i
  refine (broadcastInDim_apply (s := Cert.KernelIdeal.S2048x768) (t := Cert.KernelIdeal.S1x2048x768) ![1, 2] _ _ i
    (ix2 (i 1) (i 2)) (fun a => match a with
      | ⟨0, _⟩ => rfl
      | ⟨1, _⟩ => rfl)).trans ?_
  refine (Cert.KernelIdeal.Hand.outOf_apply _ _ hp _ _ (i 1) (i 2)).trans ?_
  rw [e0, e1, e2, e3]
  exact (Cert.ReferenceIdeal.Hand.v22_apply x0 x1 x2 x3 i (i 1) (i 2) rfl rfl).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel: every execution ends, the arguments as they began, every counter at zero. -/
theorem frame_Kernel : Cert.quiescent_Kernel (hKernel := Cert.Kernel.Gen.facts) := fun m g _ => Cert.Kernel.Hand.quiet m g

/-- The idealized kernel: the same. -/
theorem frame_KernelIdeal : Cert.quiescent_KernelIdeal (hKernelIdeal := Cert.KernelIdeal.Gen.facts) := fun m g _ =>
  Cert.KernelIdeal.Hand.quiet m g

/-- The reference: the same; it has no counters. -/
theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel and the reference, run on the same arguments with finite tokens and router weights, end with the same
    result, the arguments as they began. -/
theorem same_result : Cert.algebraic_KernelIdeal_ReferenceIdeal_pre_routing_finite (hKernelIdeal := Cert.KernelIdeal.Gen.facts)
    (hReferenceIdeal := Cert.ReferenceIdeal.Gen.facts) (hPre_routing_finite := Cert.Hand.pre_facts) := fun m g m' g' hpre hargs =>
  ⟨fun c => Cert.ReferenceIdeal.Value.res_main_v22 m' c,
    (θ_run Cert.KernelIdeal.defs _ _).mono (fun r h c => by
      haveI := Cert.Hand.pre_facts
      obtain ⟨a0, a1, a2, a3⟩ := hargs c
      obtain ⟨hx, hc⟩ := Cert.Hand.finite_of_pre _ _ _ _ (hpre c)
      rw [← a0] at hx
      rw [← a1] at hc
      refine ⟨?_, Cert.KernelIdeal.Hand.args_kept m h.1 c⟩
      refine (Cert.KernelIdeal.Hand.result_eq m h.1 c).trans ?_
      refine Eq.trans ?_ (Cert.ReferenceIdeal.Read.val_main_v22_eq m' c).symm
      exact Cert.Hand.result_eq_reference m c _ _ _ _ a0 a1 a2 a3 hx hc) (Cert.KernelIdeal.Hand.run_main m g),
    Cert.ReferenceIdeal.Value.run (F := Ideal) m' g'⟩

/-- Everything claimed. -/
theorem claim : Cert.Claim := ⟨Cert.Kernel.Gen.facts, Cert.KernelIdeal.Gen.facts, Cert.ReferenceIdeal.Gen.facts, Cert.Hand.pre_facts,
  frame_Kernel, frame_KernelIdeal, fun m g _ => Cert.KernelIdeal.Hand.quiet m g, frame_ReferenceIdeal,
  fun m g _ => frame_ReferenceIdeal m g trivial, trivial, same_result⟩

end Cert.Proof

end
